-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x96x96 : Shape := ⟨4, ![8, 32, 96, 96]⟩
abbrev S32x32x36480 : Shape := ⟨3, ![32, 32, 36480]⟩
abbrev S32 : Shape := ⟨1, ![32]⟩
abbrev S190x190 : Shape := ⟨2, ![190, 190]⟩
abbrev S190x95 : Shape := ⟨2, ![190, 95]⟩
abbrev S8x32x9216 : Shape := ⟨3, ![8, 32, 9216]⟩
abbrev S8x32x9120 : Shape := ⟨3, ![8, 32, 9120]⟩
abbrev S8x32x96x95 : Shape := ⟨4, ![8, 32, 96, 95]⟩
abbrev S32x32x192x190 : Shape := ⟨4, ![32, 32, 192, 190]⟩
abbrev S1x32 : Shape := ⟨2, ![1, 32]⟩
abbrev S8x32x192x95 : Shape := ⟨4, ![8, 32, 192, 95]⟩
abbrev S8x32x8x96 : Shape := ⟨4, ![8, 32, 8, 96]⟩
abbrev S8x32x8x95 : Shape := ⟨4, ![8, 32, 8, 95]⟩
abbrev S32x32x8x190 : Shape := ⟨4, ![32, 32, 8, 190]⟩
abbrev S8x32x8x190 : Shape := ⟨4, ![8, 32, 8, 190]⟩
abbrev S1x32x8x95 : Shape := ⟨4, ![1, 32, 8, 95]⟩
abbrev S32x8x95 : Shape := ⟨3, ![32, 8, 95]⟩
abbrev S32x8x190 : Shape := ⟨3, ![32, 8, 190]⟩
abbrev S256x190 : Shape := ⟨2, ![256, 190]⟩
abbrev S1x32x8x190 : Shape := ⟨4, ![1, 32, 8, 190]⟩
abbrev S2x8x190 : Shape := ⟨3, ![2, 8, 190]⟩
abbrev S2x1x8x190 : Shape := ⟨4, ![2, 1, 8, 190]⟩
abbrev S1x1x8x190 : Shape := ⟨4, ![1, 1, 8, 190]⟩
abbrev S8x190 : Shape := ⟨2, ![8, 190]⟩
abbrev S1x8x190 : Shape := ⟨3, ![1, 8, 190]⟩
abbrev S1x2x8x190 : Shape := ⟨4, ![1, 2, 8, 190]⟩
abbrev S32x1x1 : Shape := ⟨3, ![32, 1, 1]⟩
abbrev S256x95 : Shape := ⟨2, ![256, 95]⟩
abbrev S8x32x18240 : Shape := ⟨3, ![8, 32, 18240]⟩

abbrev nBuf : Space → Nat
  | .hbm => 14
  | .vmem => 15
  | .smem => 0
  | _ => 0

abbrev bufTy : (tb : Table) → Fin (tcTables nBuf tb) → BufTy
  | .hbm, ⟨0, _⟩ => ⟨S8x32x96x96, .f32⟩
  | .hbm, ⟨1, _⟩ => ⟨S32x32x36480, .f32⟩
  | .hbm, ⟨2, _⟩ => ⟨S32, .f32⟩
  | .hbm, ⟨3, _⟩ => ⟨S190x190, .f32⟩
  | .hbm, ⟨4, _⟩ => ⟨S190x95, .f32⟩
  | .hbm, ⟨5, _⟩ => ⟨S8x32x9216, .f32⟩
  | .hbm, ⟨6, _⟩ => ⟨S8x32x9120, .f32⟩
  | .hbm, ⟨7, _⟩ => ⟨S8x32x96x95, .f32⟩
  | .hbm, ⟨8, _⟩ => ⟨S8x32x9120, .f32⟩
  | .hbm, ⟨9, _⟩ => ⟨S8x32x96x95, .f32⟩
  | .hbm, ⟨10, _⟩ => ⟨S32x32x192x190, .f32⟩
  | .hbm, ⟨11, _⟩ => ⟨S1x32, .f32⟩
  | .hbm, ⟨12, _⟩ => ⟨S8x32x192x95, .f32⟩
  | .hbm, ⟨13, _⟩ => ⟨S8x32x18240, .f32⟩
  | .local _ .vmem, ⟨0, _⟩ => ⟨S8x32x8x96, .f32⟩
  | .local _ .vmem, ⟨1, _⟩ => ⟨S8x32x8x96, .f32⟩
  | .local _ .vmem, ⟨2, _⟩ => ⟨S8x32x8x95, .f32⟩
  | .local _ .vmem, ⟨3, _⟩ => ⟨S8x32x8x95, .f32⟩
  | .local _ .vmem, ⟨4, _⟩ => ⟨S8x32x8x95, .f32⟩
  | .local _ .vmem, ⟨5, _⟩ => ⟨S8x32x8x95, .f32⟩
  | .local _ .vmem, ⟨6, _⟩ => ⟨S32x32x8x190, .f32⟩
  | .local _ .vmem, ⟨7, _⟩ => ⟨S32x32x8x190, .f32⟩
  | .local _ .vmem, ⟨8, _⟩ => ⟨S1x32, .f32⟩
  | .local _ .vmem, ⟨9, _⟩ => ⟨S190x190, .f32⟩
  | .local _ .vmem, ⟨10, _⟩ => ⟨S190x95, .f32⟩
  | .local _ .vmem, ⟨11, _⟩ => ⟨S8x32x8x95, .f32⟩
  | .local _ .vmem, ⟨12, _⟩ => ⟨S8x32x8x95, .f32⟩
  | .local _ .vmem, ⟨13, _⟩ => ⟨S8x32x8x190, .f32⟩
  | .local _ .vmem, ⟨14, _⟩ => ⟨S8x32x8x190, .f32⟩
  | _, _ => ⟨S8x32x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![24], ![false]⟩

def cc0_transform_0 (i : grid0.Coords) : Fin 4 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_1 (i : grid0.Coords) : Fin 4 → Nat :=
  let arg0 : BitVec 32 := BitVec.ofNat 32 (i 0).val
  let c12_i32 : BitVec 32 := 12#32
  let v0 : BitVec 32 := Scalar.subi arg0 c12_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v2.toNat, c0_i32_2.toNat]

def cc0_transform_2 (i : grid0.Coords) : Fin 4 → Nat :=
  let arg0 : BitVec 32 := BitVec.ofNat 32 (i 0).val
  let c12_i32 : BitVec 32 := 12#32
  let v0 : BitVec 32 := Scalar.subi arg0 c12_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v2.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S8x32x8x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x8x95 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x8x95 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x32x8x190 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S190x190 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S190x95 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x32x8x95 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x32x96x96 : Shape := ⟨4, ![8, 32, 96, 96]⟩
abbrev S32x32x36480 : Shape := ⟨3, ![32, 32, 36480]⟩
abbrev S32 : Shape := ⟨1, ![32]⟩
abbrev S36480 : Shape := ⟨1, ![36480]⟩
abbrev S_ : Shape := ⟨0, ![]⟩
abbrev S8x32x9216 : Shape := ⟨3, ![8, 32, 9216]⟩
abbrev S36480x1 : Shape := ⟨2, ![36480, 1]⟩
abbrev S1 : Shape := ⟨1, ![1]⟩
abbrev S1x1 : Shape := ⟨2, ![1, 1]⟩
abbrev S8x32x36480 : Shape := ⟨3, ![8, 32, 36480]⟩
abbrev S36480x8x32 : Shape := ⟨3, ![36480, 8, 32]⟩
abbrev S18240x8x32 : Shape := ⟨3, ![18240, 8, 32]⟩
abbrev S8x32x18240 : Shape := ⟨3, ![8, 32, 18240]⟩
abbrev S1x32x1 : Shape := ⟨3, ![1, 32, 1]⟩

abbrev nBuf : Space → Nat
  | .hbm => 108
  | .vmem => 0
  | .smem => 0
  | _ => 0

abbrev bufTy : (tb : Table) → Fin (tcTables nBuf tb) → BufTy
  | .hbm, ⟨0, _⟩ => ⟨S8x32x96x96, .f32⟩
  | .hbm, ⟨1, _⟩ => ⟨S32x32x36480, .f32⟩
  | .hbm, ⟨2, _⟩ => ⟨S32, .f32⟩
  | .hbm, ⟨3, _⟩ => ⟨S36480, .i32⟩
  | .hbm, ⟨4, _⟩ => ⟨S_, .i32⟩
  | .hbm, ⟨5, _⟩ => ⟨S_, .i32⟩
  | .hbm, ⟨6, _⟩ => ⟨S36480, .i32⟩
  | .hbm, ⟨7, _⟩ => ⟨S36480, .i32⟩
  | .hbm, ⟨8, _⟩ => ⟨S36480, .i32⟩
  | .hbm, ⟨9, _⟩ => ⟨S_, .i32⟩
  | .hbm, ⟨10, _⟩ => ⟨S36480, .i32⟩
  | .hbm, ⟨11, _⟩ => ⟨S36480, .i1⟩
  | .hbm, ⟨12, _⟩ => ⟨S36480, .i32⟩
  | .hbm, ⟨13, _⟩ => ⟨S36480, .i32⟩
  | .hbm, ⟨14, _⟩ => ⟨S_, .i32⟩
  | .hbm, ⟨15, _⟩ => ⟨S36480, .i32⟩
  | .hbm, ⟨16, _⟩ => ⟨S36480, .i1⟩
  | .hbm, ⟨17, _⟩ => ⟨S36480, .i1⟩
  | .hbm, ⟨18, _⟩ => ⟨S_, .i32⟩
  | .hbm, ⟨19, _⟩ => ⟨S36480, .i32⟩
  | .hbm, ⟨20, _⟩ => ⟨S36480, .i32⟩
  | .hbm, ⟨21, _⟩ => ⟨S36480, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S36480, .i32⟩
  | .hbm, ⟨29, _⟩ => ⟨S36480, .i32⟩
  | .hbm, ⟨30, _⟩ => ⟨S_, .i32⟩
  | .hbm, ⟨31, _⟩ => ⟨S36480, .i32⟩
  | .hbm, ⟨32, _⟩ => ⟨S36480, .i1⟩
  | .hbm, ⟨33, _⟩ => ⟨S_, .i32⟩
  | .hbm, ⟨34, _⟩ => ⟨S36480, .i32⟩
  | .hbm, ⟨35, _⟩ => ⟨S36480, .i1⟩
  | .hbm, ⟨36, _⟩ => ⟨S_, .i32⟩
  | .hbm, ⟨37, _⟩ => ⟨S_, .i1⟩
  | .hbm, ⟨38, _⟩ => ⟨S36480, .i1⟩
  | .hbm, ⟨39, _⟩ => ⟨S36480, .i1⟩
  | .hbm, ⟨40, _⟩ => ⟨S36480, .i1⟩
  | .hbm, ⟨41, _⟩ => ⟨S36480, .i32⟩
  | .hbm, ⟨42, _⟩ => ⟨S36480, .i32⟩
  | .hbm, ⟨43, _⟩ => ⟨S36480, .i32⟩
  | .hbm, ⟨44, _⟩ => ⟨S_, .i32⟩
  | .hbm, ⟨45, _⟩ => ⟨S36480, .i32⟩
  | .hbm, ⟨46, _⟩ => ⟨S36480, .i1⟩
  | .hbm, ⟨47, _⟩ => ⟨S_, .i32⟩
  | .hbm, ⟨48, _⟩ => ⟨S_, .i32⟩
  | .hbm, ⟨49, _⟩ => ⟨S36480, .i32⟩
  | .hbm, ⟨50, _⟩ => ⟨S36480, .i32⟩
  | .hbm, ⟨51, _⟩ => ⟨S36480, .i32⟩
  | .hbm, ⟨52, _⟩ => ⟨S_, .i32⟩
  | .hbm, ⟨53, _⟩ => ⟨S36480, .i32⟩
  | .hbm, ⟨54, _⟩ => ⟨S36480, .i1⟩
  | .hbm, ⟨55, _⟩ => ⟨S36480, .i32⟩
  | .hbm, ⟨56, _⟩ => ⟨S36480, .i32⟩
  | .hbm, ⟨57, _⟩ => ⟨S_, .i32⟩
  | .hbm, ⟨58, _⟩ => ⟨S36480, .i32⟩
  | .hbm, ⟨59, _⟩ => ⟨S36480, .i1⟩
  | .hbm, ⟨60, _⟩ => ⟨S36480, .i1⟩
  | .hbm, ⟨61, _⟩ => ⟨S_, .i32⟩
  | .hbm, ⟨62, _⟩ => ⟨S36480, .i32⟩
  | .hbm, ⟨63, _⟩ => ⟨S36480, .i32⟩
  | .hbm, ⟨64, _⟩ => ⟨S36480, .i32⟩
  | .hbm, ⟨65, _⟩ => ⟨S36480, .i32⟩
  | .hbm, ⟨66, _⟩ => ⟨S36480, .i32⟩
  | .hbm, ⟨67, _⟩ => ⟨S_, .i32⟩
  | .hbm, ⟨68, _⟩ => ⟨S36480, .i32⟩
  | .hbm, ⟨69, _⟩ => ⟨S36480, .i32⟩
  | .hbm, ⟨70, _⟩ => ⟨S_, .i32⟩
  | .hbm, ⟨71, _⟩ => ⟨S36480, .i32⟩
  | .hbm, ⟨72, _⟩ => ⟨S36480, .i32⟩
  | .hbm, ⟨73, _⟩ => ⟨S36480, .i32⟩
  | .hbm, ⟨74, _⟩ => ⟨S36480, .i32⟩
  | .hbm, ⟨75, _⟩ => ⟨S8x32x9216, .f32⟩
  | .hbm, ⟨76, _⟩ => ⟨S_, .i32⟩
  | .hbm, ⟨77, _⟩ => ⟨S36480, .i32⟩
  | .hbm, ⟨78, _⟩ => ⟨S36480, .i1⟩
  | .hbm, ⟨79, _⟩ => ⟨S_, .i32⟩
  | .hbm, ⟨80, _⟩ => ⟨S36480, .i32⟩
  | .hbm, ⟨81, _⟩ => ⟨S36480, .i32⟩
  | .hbm, ⟨82, _⟩ => ⟨S36480, .i32⟩
  | .hbm, ⟨83, _⟩ => ⟨S36480x1, .i32⟩
  | .hbm, ⟨84, _⟩ => ⟨S1, .i32⟩
  | .hbm, ⟨85, _⟩ => ⟨S_, .i32⟩
  | .hbm, ⟨86, _⟩ => ⟨S36480x1, .i32⟩
  | .hbm, ⟨87, _⟩ => ⟨S36480x1, .i1⟩
  | .hbm, ⟨88, _⟩ => ⟨S1x1, .i32⟩
  | .hbm, ⟨89, _⟩ => ⟨S36480x1, .i32⟩
  | .hbm, ⟨90, _⟩ => ⟨S36480x1, .i1⟩
  | .hbm, ⟨91, _⟩ => ⟨S36480x1, .i1⟩
  | .hbm, ⟨92, _⟩ => ⟨S_, .i1⟩
  | .hbm, ⟨93, _⟩ => ⟨S36480, .i1⟩
  | .hbm, ⟨94, _⟩ => ⟨S8x32x36480, .f32⟩
  | .hbm, ⟨95, _⟩ => ⟨S8x32x36480, .i1⟩
  | .hbm, ⟨96, _⟩ => ⟨S_, .f32⟩
  | .hbm, ⟨97, _⟩ => ⟨S8x32x36480, .f32⟩
  | .hbm, ⟨98, _⟩ => ⟨S8x32x36480, .f32⟩
  | .hbm, ⟨99, _⟩ => ⟨S36480x8x32, .f32⟩
  | .hbm, ⟨100, _⟩ => ⟨S_, .f32⟩
  | .hbm, ⟨101, _⟩ => ⟨S18240x8x32, .f32⟩
  | .hbm, ⟨102, _⟩ => ⟨S36480x1, .i32⟩
  | .hbm, ⟨103, _⟩ => ⟨S18240x8x32, .f32⟩
  | .hbm, ⟨104, _⟩ => ⟨S8x32x18240, .f32⟩
  | .hbm, ⟨105, _⟩ => ⟨S1x32x1, .f32⟩
  | .hbm, ⟨106, _⟩ => ⟨S8x32x18240, .f32⟩
  | .hbm, ⟨107, _⟩ => ⟨S8x32x18240, .f32⟩
  | _, _ => ⟨S8x32x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v2 : Ref sig .tc := ⟨.hbm, 43, rfl⟩
abbrev main_c_1 : Ref sig .tc := ⟨.hbm, 44, rfl⟩
abbrev main_v3 : Ref sig .tc := ⟨.hbm, 45, rfl⟩
abbrev main_v4 : Ref sig .tc := ⟨.hbm, 46, rfl⟩
abbrev main_c_2 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_c : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_0 : Ref sig .tc := ⟨.hbm, 61, rfl⟩
abbrev main_call2_v12 : Ref sig .tc := ⟨.hbm, 62, rfl⟩
abbrev main_call2_v13 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_c_3 : Ref sig .tc := ⟨.hbm, 67, rfl⟩
abbrev main_v8 : Ref sig .tc := ⟨.hbm, 68, rfl⟩
abbrev main_v9 : Ref sig .tc := ⟨.hbm, 69, rfl⟩
abbrev main_c_4 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_call4_c : Ref sig .tc := ⟨.hbm, 76, rfl⟩
abbrev main_call4_v0 : Ref sig .tc := ⟨.hbm, 77, rfl⟩
abbrev main_call4_v1 : Ref sig .tc := ⟨.hbm, 78, rfl⟩
abbrev main_call4_c_0 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_c_1 : Ref sig .tc := ⟨.hbm, 84, rfl⟩
abbrev main_call4_c_2 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_v9 : Ref sig .tc := ⟨.hbm, 89, rfl⟩
abbrev main_call4_v10 : Ref sig .tc := ⟨.hbm, 90, rfl⟩
abbrev main_call4_v11 : Ref sig .tc := ⟨.hbm, 91, rfl⟩
abbrev main_call4_c_3 : Ref sig .tc := ⟨.hbm, 92, rfl⟩
abbrev main_call4_v12 : Ref sig .tc := ⟨.hbm, 93, rfl⟩
abbrev main_call4_v13 : Ref sig .tc := ⟨.hbm, 94, rfl⟩
abbrev main_call4_v14 : Ref sig .tc := ⟨.hbm, 95, rfl⟩
abbrev main_call4_cst : Ref sig .tc := ⟨.hbm, 96, rfl⟩
abbrev main_call4_v15 : Ref sig .tc := ⟨.hbm, 97, rfl⟩
abbrev main_v15 : Ref sig .tc := ⟨.hbm, 98, rfl⟩
abbrev main_v16 : Ref sig .tc := ⟨.hbm, 99, rfl⟩
abbrev main_cst : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩

abbrev nD : Nat := 1
abbrev τ : Topo := Topo.v7x

variable {F : FTy → Type} [FloatOps F]
-- ==== Proof.Exec.lean ====
/- Evaluation of a straight-line kernel body: what a program of loads and stores leaves in memory, as a function, and
   the one theorem that turns the function into a weakest precondition. -/
module

public import Idealize.ShloMosaic.Lib.Memref
public import Idealize.ShloMosaic.Rules.Step

@[expose] public section

noncomputable section

namespace Cert.Exec

open Idealize.ShloMosaic Idealize.SL Idealize.SL.RA Idealize.SL.Sem Idealize.SL.ProofMode
open Idealize.SL.BI (sProp)
open scoped Idealize.SL.BI
open Idealize.SL.BI.BIBase Idealize.SL.BI.Laws

universe v

variable {nD : Nat} {τ : Topo} {sig : RefSig} {Val : EltTy → Type} {Λ : Labels}

/-- The contents of every buffer. -/
abbrev Mem (nD : Nat) (τ : Topo) (sig : RefSig) (Val : EltTy → Type) : Type := (ℓ : Loc nD τ sig) → Buf Val ℓ

/-- `μ` with the buffer `ℓ` replaced by `x`. -/
def upd (μ : Mem nD τ sig Val) (ℓ : Loc nD τ sig) (x : Buf Val ℓ) : Mem nD τ sig Val :=
  open Classical in fun ℓ' => if h : ℓ = ℓ' then h ▸ x else μ ℓ'

/-- What an evaluation ends in: the memory, and the buffers it named, those of each stretch up to a store in a list of
    its own (`none`: an effect other than a load or a store). -/
structure Out (nD : Nat) (τ : Topo) (sig : RefSig) (Val : EltTy → Type) where
  mem : Mem nD τ sig Val
  named : List (List (Option (Loc nD τ sig)))

/-- How an evaluation goes on. -/
abbrev Cont (nD : Nat) (τ : Topo) (sig : RefSig) (Val : EltTy → Type) : Type :=
  Mem nD τ sig Val → List (Option (Loc nD τ sig)) → List (List (Option (Loc nD τ sig))) → Out nD τ sig Val

/-- One effect. -/
def step (c : Thread nD τ) {β : Type} (e : TpuEff nD τ sig Val Λ c.2 β) (k : β → Cont nD τ sig Val) : Cont nD τ sig Val :=
  match e with
  | .load m r _ => fun μ cur done =>
      k (m.view.readAt Val r (μ (m.view.loc c))) μ (some (m.view.loc c) :: cur) done
  | .store m r w M _ _ => fun μ cur done =>
      k ⟨⟩ (upd μ ((m.access r).loc c) ((m.access r).write Val (μ ((m.access r).loc c)) w M)) []
        ((some ((m.access r).loc c) :: cur) :: done)
  | _ => fun μ cur done => ⟨μ, (none :: cur) :: done⟩

/-- The evaluation of a program. -/
def exec (c : Thread nD τ) {α : Type} (p : Prog (TpuEff nD τ sig Val Λ c.2) α) : Cont nD τ sig Val :=
  Prog.rec (motive := fun _ => Cont nD τ sig Val) (fun _ μ cur done => ⟨μ, cur :: done⟩) (fun e _ ih => step c e ih) p

/-- `f` at `0`, …, `k - 1`, in this order. -/
abbrev upto {n : Nat} {S : Type*} (f : Fin n → S → S) (s : S) (k : Nat) : k ≤ n → S :=
  Nat.rec (motive := fun k => k ≤ n → S) (fun _ => s) (fun k ih h => f ⟨k, h⟩ (ih (Nat.le_of_succ_le h))) k

/-- What holds at the start and is kept by each step holds at the end. -/
theorem upto_ind {n : Nat} {S : Type*} (P : S → Prop) {f : Fin n → S → S} {s : S} (h0 : P s) (hs : ∀ b x, P x → P (f b x)) :
    ∀ (k : Nat) (hk : k ≤ n), P (upto f s k hk)
  | 0, _ => h0
  | k + 1, hk => hs ⟨k, hk⟩ _ (upto_ind P h0 hs k (Nat.le_of_succ_le hk))

/-! ## Soundness -/

/-- An update at its own location, -/
theorem upd_self (μ : Mem nD τ sig Val) (ℓ : Loc nD τ sig) (x : Buf Val ℓ) : upd μ ℓ x ℓ = x := by
  unfold upd; simp

/-- and elsewhere. -/
theorem upd_of_ne (μ : Mem nD τ sig Val) {ℓ ℓ' : Loc nD τ sig} (x : Buf Val ℓ) (h : ℓ' ≠ ℓ) : upd μ ℓ x ℓ' = μ ℓ' := by
  unfold upd; simp [h.symm]

/-- What was named before is still recorded at the end. -/
theorem named_of_exec (c : Thread nD τ) {α : Type} (p : Prog (TpuEff nD τ sig Val Λ c.2) α) :
    ∀ (μ : Mem nD τ sig Val) (cur : List (Option (Loc nD τ sig))) (done : List (List (Option (Loc nD τ sig)))),
      (∃ l ∈ (exec c p μ cur done).named, ∀ x ∈ cur, x ∈ l) ∧ ∀ l ∈ done, l ∈ (exec c p μ cur done).named := by
  induction p with
  | ret a => intro μ cur done; exact ⟨⟨cur, by simp [exec], fun _ h => h⟩, fun l h => by simp [exec, h]⟩
  | op e k ih =>
    intro μ cur done
    cases e with
    | load m r h =>
      obtain ⟨⟨l, hl, hc⟩, hd⟩ := ih (m.view.readAt Val r (μ (m.view.loc c))) μ (some (m.view.loc c) :: cur) done
      exact ⟨⟨l, hl, fun x hx => hc x (List.mem_cons_of_mem _ hx)⟩, hd⟩
    | store m r w M h hm =>
      obtain ⟨⟨l, hl, hc⟩, hd⟩ := ih ⟨⟩ (upd μ ((m.access r).loc c) ((m.access r).write Val (μ ((m.access r).loc c)) w M)) []
        ((some ((m.access r).loc c) :: cur) :: done)
      exact ⟨⟨_, hd _ (List.mem_cons_self ..), fun x hx => List.mem_cons_of_mem _ hx⟩,
        fun l hl => hd _ (List.mem_cons_of_mem _ hl)⟩
    | _ => exact ⟨⟨none :: cur, by simp [exec, step], fun x hx => List.mem_cons_of_mem _ hx⟩, fun l hl => by simp [exec, step, hl]⟩

section Sound

variable {Ix : Type} [DecidableEq Ix] {Name : Type} [DecidableEq Name] {U : Type} [URA U] {Lvl : Type}
local notation "𝕄" => MT nD τ sig Ix Val Name U Lvl

/-- The buffers of `S`, whole, at the contents `μ` gives them. -/
def held (S : Finset (Loc nD τ sig)) (μ : Mem nD τ sig Val) : sProp 𝕄 :=
  BI.bigSep S fun ℓ => ℓ ↦[Finset.univ]{fullShare} μ ℓ

/-- One of the locations held, taken out. -/
theorem held_eq {S : Finset (Loc nD τ sig)} {ℓ : Loc nD τ sig} (h : ℓ ∈ S) (μ : Mem nD τ sig Val) :
    (held S μ : sProp 𝕄) = iprop((ℓ ↦[Finset.univ]{fullShare} μ ℓ) ∗ held (S.erase ℓ) μ) := BI.bigSep_erase h

/-- An update elsewhere leaves what is held. -/
theorem held_upd {S : Finset (Loc nD τ sig)} {ℓ : Loc nD τ sig} (μ : Mem nD τ sig Val) (x : Buf Val ℓ) :
    (held (S.erase ℓ) (upd μ ℓ x) : sProp 𝕄) = held (S.erase ℓ) μ :=
  BI.bigSep_congr fun ℓ' h => by rw [upd_of_ne μ x (Finset.ne_of_mem_erase h)]

/-- The buffers of a list, one after another. -/
def heldL (L : List (Loc nD τ sig)) (μ : Mem nD τ sig Val) : sProp 𝕄 :=
  L.foldr (fun ℓ P => iprop((ℓ ↦[Finset.univ]{fullShare} μ ℓ) ∗ P)) (held ∅ μ)

/-- What is held at a list of different locations, one by one. -/
theorem held_toFinset {L : List (Loc nD τ sig)} (h : L.Nodup) (μ : Mem nD τ sig Val) :
    (held L.toFinset μ : sProp 𝕄) = heldL L μ := by
  induction L with
  | nil => rfl
  | cons ℓ L ih =>
    obtain ⟨h1, h2⟩ := List.nodup_cons.mp h
    rw [List.toFinset_cons]
    refine (BI.bigSep_insert (by simpa using h1)).trans ?_
    show iprop(_ ∗ held L.toFinset μ) = iprop(_ ∗ heldL L μ)
    rw [ih h2]

/-- Nothing is held at no location. -/
theorem held_empty (μ : Mem nD τ sig Val) : (held ∅ μ : sProp 𝕄) = iprop(emp) := BI.bigSep_empty

/-- Contents chosen at each of finitely many buffers are a memory's. -/
theorem exists_mem (base : Mem nD τ sig Val) (L : List ((ℓ : Loc nD τ sig) × Buf Val ℓ)) (h : (L.map (·.1)).Nodup) :
    ∃ μ : Mem nD τ sig Val, L.foldr (fun p P => μ p.1 = p.2 ∧ P) True := by
  suffices h' : ∃ μ : Mem nD τ sig Val, ∀ p ∈ L, μ p.1 = p.2 by
    obtain ⟨μ, hμ⟩ := h'
    refine ⟨μ, ?_⟩
    clear h
    induction L with
    | nil => trivial
    | cons p L ih => exact ⟨hμ p (List.mem_cons_self ..), ih fun q hq => hμ q (List.mem_cons_of_mem _ hq)⟩
  induction L with
  | nil => exact ⟨base, fun p hp => absurd hp List.not_mem_nil⟩
  | cons p L ih =>
    obtain ⟨h1, h2⟩ := List.nodup_cons.mp h
    obtain ⟨μ, hμ⟩ := ih h2
    refine ⟨upd μ p.1 p.2, fun q hq => ?_⟩
    rcases List.mem_cons.mp hq with rfl | hq
    · exact upd_self ..
    · have hne : q.1 ≠ p.1 := fun e => h1 (List.mem_map.mpr ⟨q, hq, e⟩)
      rw [upd_of_ne _ _ hne]
      exact hμ q hq

/-- A whole buffer owned at some contents. -/
theorem owns_of_isWhole (c : Thread nD τ) {sp : Space} {s : Shape} {e : EltTy} {m : Memref sig c.2.kind sp s e} (hm : m.IsWhole)
    (q : PosShare TreeShare) (X : s.Idx → Val e) :
    (owns c m q X : sProp 𝕄) = iprop(∃ f, ⌜m.view.read Val f = X⌝ ∗ (m.view.loc c ↦[Finset.univ]{q} f)) := by
  unfold owns; rw [hm.set_eq_univ]

variable [Preorder Lvl] {defs : Defs nD τ sig Val Λ} (𝒱 : Variants) (c : Thread nD τ) (bd : Option 𝒱.V)
  {Γ : PendingWaitsCtx sig Ix} (E : Set Name)

/-- A program that names only buffers of `S`, run with these in hand, leaves them at what its evaluation computes. -/
theorem wp_exec {S : Finset (Loc nD τ sig)} {α : Type} (p : Prog (TpuEff nD τ sig Val Λ c.2) α) {Q : α → sProp 𝕄} :
    ∀ (μ : Mem nD τ sig Val) (cur : List (Option (Loc nD τ sig))) (done : List (List (Option (Loc nD τ sig)))),
      (∀ l ∈ (exec c p μ cur done).named, ∀ x ∈ l, ∃ ℓ ∈ S, x = some ℓ) →
      (∀ a, held S (exec c p μ cur done).mem ⊢ Q a) →
      (held S μ ⊢ wp frame (wpE' defs 𝒱 c bd Γ) E p Q) := by
  induction p with
  | ret a => intro μ cur done _ hQ; rw [wp_ret]; refine (hQ a).trans ?_; iintro H; imodintro; iexact H
  | op e k ih =>
    intro μ cur done hS hQ
    cases e with
    | load m r h =>
      have hm : m.view.loc c ∈ S := by
        obtain ⟨⟨l, hl, hc⟩, -⟩ := named_of_exec c (k (m.view.readAt Val r (μ (m.view.loc c)))) μ (some (m.view.loc c) :: cur) done
        obtain ⟨ℓ, hℓ, he⟩ := hS l hl _ (hc _ (List.mem_cons_self ..))
        rw [Option.some.inj he]; exact hℓ
      have := ih (m.view.readAt Val r (μ (m.view.loc c))) μ (some (m.view.loc c) :: cur) done hS hQ
      rw [held_eq hm] at this ⊢
      iintro ⟨H, HR⟩
      iapply (wp_load 𝒱 c bd E (Finset.subset_univ _)) $$ H
      iintro H
      iapply this
      isplitl [H]; · iexact H
      iexact HR
    | store m r w M h hm' =>
      have hm : (m.access r).loc c ∈ S := by
        obtain ⟨-, hd⟩ := named_of_exec c (k ⟨⟩) (upd μ ((m.access r).loc c) ((m.access r).write Val (μ ((m.access r).loc c)) w M)) []
          ((some ((m.access r).loc c) :: cur) :: done)
        obtain ⟨ℓ, hℓ, he⟩ := hS _ (hd _ (List.mem_cons_self ..)) _ (List.mem_cons_self ..)
        rw [Option.some.inj he]; exact hℓ
      have := ih ⟨⟩ (upd μ ((m.access r).loc c) ((m.access r).write Val (μ ((m.access r).loc c)) w M)) []
        ((some ((m.access r).loc c) :: cur) :: done) hS hQ
      rw [held_eq hm, held_upd, upd_self] at this
      rw [held_eq hm]
      iintro ⟨H, HR⟩
      iapply (wp_store 𝒱 c bd E (Finset.subset_univ _)) $$ H
      iintro H
      iapply this
      isplitl [H]; · iexact H
      iexact HR
    | _ =>
      obtain ⟨ℓ, -, he⟩ := hS _ (List.mem_cons_self ..) _ (List.mem_cons_self ..)
      cases he

end Sound

/-! ## Stores at a family of rectangles -/

section Stores

variable (c : Thread nD τ) {cs : CoreSpace} {s : Shape} {e : EltTy}

/-- What a memory holds under a memref. -/
def val (m : Memref sig c.2.kind cs s e) (μ : Mem nD τ sig Val) : s.Idx → Val e := m.view.read Val (μ (m.view.loc c))

/-- `x` on a rectangle. -/
def sub {A : Type} (r : Rect s) (x : s.Idx → A) : r.shape.Idx → A := fun i => x (r.emb i)

/-- A memref's value depends on its own buffer alone, -/
theorem val_congr (m : Memref sig c.2.kind cs s e) {μ ν : Mem nD τ sig Val} (h : μ (m.view.loc c) = ν (m.view.loc c)) :
    val c m μ = val c m ν := by unfold val; rw [h]

/-- and a read is of that value. -/
theorem readAt_eq (m : Memref sig c.2.kind cs s e) (r : Rect s) (μ : Mem nD τ sig Val) :
    m.view.readAt Val r.toLoadRect (μ (m.view.loc c)) = sub r (val c m μ) := rfl

/-- A store through a rectangle. -/
def put (m : Memref sig c.2.kind cs s e) (r : Rect s) (w : r.shape.Idx → Val e) (μ : Mem nD τ sig Val) : Mem nD τ sig Val :=
  upd μ ((m.access r).loc c) ((m.access r).write Val (μ ((m.access r).loc c)) w Finset.univ)

/-- A store leaves the other buffers, -/
theorem put_of_ne (m : Memref sig c.2.kind cs s e) (r : Rect s) (w : r.shape.Idx → Val e) (μ : Mem nD τ sig Val)
    {ℓ : Loc nD τ sig} (h : ℓ ≠ m.view.loc c) : put c m r w μ ℓ = μ ℓ := upd_of_ne μ _ h

/-- gives its payload inside its rectangle, -/
theorem val_put_emb (m : Memref sig c.2.kind cs s e) (r : Rect s) (w : r.shape.Idx → Val e) (μ : Mem nD τ sig Val)
    (x : r.shape.Idx) : val c m (put c m r w μ) (r.emb x) = w x := by
  unfold val put
  rw [show upd μ ((m.access r).loc c) ((m.access r).write Val (μ ((m.access r).loc c)) w Finset.univ) (m.view.loc c)
    = (m.access r).write Val (μ ((m.access r).loc c)) w Finset.univ from upd_self ..]
  exact View.read_slice_write_emb r _ w (Finset.mem_univ x)

/-- and leaves the rest. -/
theorem val_put_of_not_mem (m : Memref sig c.2.kind cs s e) (r : Rect s) (w : r.shape.Idx → Val e) (μ : Mem nD τ sig Val)
    {y : s.Idx} (h : ∀ x, y ≠ r.emb x) : val c m (put c m r w μ) y = val c m μ y := by
  unfold val put
  rw [show upd μ ((m.access r).loc c) ((m.access r).write Val (μ ((m.access r).loc c)) w Finset.univ) (m.view.loc c)
    = (m.access r).write Val (μ ((m.access r).loc c)) w Finset.univ from upd_self ..]
  exact View.read_slice_write_of_not_mem r _ w _ (by simpa using fun x hx => h x hx.symm)

/-- Stores at pairwise disjoint rectangles of one buffer, each of something the buffer has no part in: every other buffer
    keeps its contents, each rectangle ends at what was stored there, and the rest of the buffer keeps its contents. -/
theorem upto_put {n : Nat} (m : Memref sig c.2.kind cs s e) (r : Fin n → Rect s)
    (hr : ∀ b b', b ≠ b' → ∀ x x', (r b).emb x ≠ (r b').emb x')
    (w : (b : Fin n) → Mem nD τ sig Val → (r b).shape.Idx → Val e)
    (hw : ∀ b μ ν, (∀ ℓ, ℓ ≠ m.view.loc c → μ ℓ = ν ℓ) → w b μ = w b ν) (μ : Mem nD τ sig Val) :
    ∀ (k : Nat) (hk : k ≤ n),
      (∀ ℓ, ℓ ≠ m.view.loc c → upto (fun b ν => put c m (r b) (w b ν) ν) μ k hk ℓ = μ ℓ)
      ∧ (∀ b : Fin n, b.val < k → ∀ x, val c m (upto (fun b ν => put c m (r b) (w b ν) ν) μ k hk) ((r b).emb x) = w b μ x)
      ∧ (∀ y, (∀ b x, y ≠ (r b).emb x) → val c m (upto (fun b ν => put c m (r b) (w b ν) ν) μ k hk) y = val c m μ y) := by
  intro k
  induction k with
  | zero => intro hk; exact ⟨fun _ _ => rfl, fun b hb => absurd hb (Nat.not_lt_zero _), fun _ _ => rfl⟩
  | succ k ih =>
    intro hk
    obtain ⟨h1, h2, h3⟩ := ih (Nat.le_of_succ_le hk)
    refine ⟨fun ℓ hℓ => (put_of_ne c m _ _ _ hℓ).trans (h1 ℓ hℓ), fun b hb x => ?_, fun y hy => ?_⟩
    · by_cases h : b = ⟨k, hk⟩
      · subst h
        exact (val_put_emb c m _ _ _ x).trans (congrFun (hw _ _ _ h1) x)
      · exact (val_put_of_not_mem c m _ _ _ fun x' => hr _ _ h x x').trans
          (h2 b (Nat.lt_of_le_of_ne (Nat.lt_succ_iff.mp hb) fun hh => h (Fin.ext hh)) x)
    · exact (val_put_of_not_mem c m _ _ _ fun x' => hy _ x').trans (h3 y hy)

end Stores

end Cert.Exec

end

end
-- ==== Proof.Rolled.lean ====
/- The body of the kernel written with loops over the batch and the channels (the printed body is straight-line text), and
   the values it leaves in its buffers as closed functions of the blocks it is given. -/
module

public import proofs.«01_k».proof.Proof.Gen.KernelIdeal
public import proofs.«01_k».proof.Proof.Exec
public import Idealize.ShloMosaic.Lib.Tactic
public import Idealize.ShloMosaic.Lib.Pointwise

@[expose] public section

set_option maxRecDepth 16384

noncomputable section

namespace Cert.KernelIdeal.Val

open Idealize.ShloMosaic Idealize.ShloMosaic.TcCoe Idealize.SL.Sem
open Cert.Exec

variable {F : FTy → Type} [FloatOps F] [Facts]
open Facts Shapes1.Facts₀

/-- The operands of the body. -/
structure Args where
  arg1 : Memref sig .tc .vmem S8x32x8x96 .f32
  arg2 : Memref sig .tc .vmem S8x32x8x95 .f32
  arg3 : Memref sig .tc .vmem S8x32x8x95 .f32
  arg4 : Memref sig .tc .vmem S32x32x8x190 .f32
  arg5 : Memref sig .tc .vmem S1x32 .f32
  arg6 : Memref sig .tc .vmem S190x190 .f32
  arg7 : Memref sig .tc .vmem S190x95 .f32
  arg8 : Memref sig .tc .vmem S8x32x8x95 .f32
  arg9 : Memref sig .tc .vmem S8x32x8x190 .f32
  arg10 : Memref sig .tc .vmem S8x32x8x190 .f32

/-- The contents of every buffer. -/
abbrev M (F : FTy → Type) : Type := Mem nD τ sig (Elt F)

/-- The rectangles that the body takes lie inside their buffers. -/
theorem inbA (b : Fin 8) : ∀ a, (![b.val, 0, 0, 0] : Fin 4 → Nat) a + S1x32x8x95.size a ≤ S8x32x8x96.size a := by
  revert b; decide +kernel
theorem inbA' (b : Fin 8) : ∀ a, (![b.val, 0, 0, 1] : Fin 4 → Nat) a + S1x32x8x95.size a ≤ S8x32x8x96.size a := by
  revert b; decide +kernel
theorem inbB (b : Fin 8) : ∀ a, (![b.val, 0, 0, 0] : Fin 4 → Nat) a + S1x32x8x95.size a ≤ S8x32x8x95.size a := by
  revert b; decide +kernel
theorem inbX (b : Fin 8) : ∀ a, (![b.val, 0, 0, 0] : Fin 4 → Nat) a + S1x32x8x190.size a ≤ S8x32x8x190.size a := by
  revert b; decide +kernel
theorem inbR (b : Fin 8) (c : Fin 32) :
    ∀ a, (![b.val, c.val, 0, 0] : Fin 4 → Nat) a + S1x1x8x190.size a ≤ S8x32x8x190.size a := by
  revert b c; decide +kernel
theorem inbW (o : Fin 16) (c : Fin 32) :
    ∀ a, (![2 * o.val, c.val, 0, 0] : Fin 4 → Nat) a + S2x1x8x190.size a ≤ S32x32x8x190.size a := by
  revert o c; decide +kernel
theorem inbS (b : Fin 8) (o : Fin 16) :
    ∀ a, (![b.val, 2 * o.val, 0, 0] : Fin 4 → Nat) a + S1x2x8x190.size a ≤ S8x32x8x190.size a := by
  revert b o; decide +kernel

/-- The rectangles the body reads and writes. -/
abbrev rA (b : Fin 8) : Rect S8x32x8x96 := Rect.unit (s := S8x32x8x96) ![b.val, 0, 0, 0] S1x32x8x95.size (inbA b)
abbrev rA' (b : Fin 8) : Rect S8x32x8x96 := Rect.unit (s := S8x32x8x96) ![b.val, 0, 0, 1] S1x32x8x95.size (inbA' b)
abbrev rB (b : Fin 8) : Rect S8x32x8x95 := Rect.unit (s := S8x32x8x95) ![b.val, 0, 0, 0] S1x32x8x95.size (inbB b)
abbrev rX (b : Fin 8) : Rect S8x32x8x190 := Rect.unit (s := S8x32x8x190) ![b.val, 0, 0, 0] S1x32x8x190.size (inbX b)
abbrev rR (b : Fin 8) (c : Fin 32) : Rect S8x32x8x190 :=
  Rect.unit (s := S8x32x8x190) ![b.val, c.val, 0, 0] S1x1x8x190.size (inbR b c)
abbrev rW (o : Fin 16) (c : Fin 32) : Rect S32x32x8x190 :=
  Rect.unit (s := S32x32x8x190) ![2 * o.val, c.val, 0, 0] S2x1x8x190.size (inbW o c)
abbrev rS (b : Fin 8) (o : Fin 16) : Rect S8x32x8x190 :=
  Rect.unit (s := S8x32x8x190) ![b.val, 2 * o.val, 0, 0] S1x2x8x190.size (inbS b o)
abbrev rBias : Rect S1x32 := Rect.unit (s := S1x32) ![0, 0] S1x32.size inb_S1x32_S1x32_0_0
abbrev rE : Rect S190x190 := Rect.unit (s := S190x190) ![0, 0] S190x190.size inb_S190x190_S190x190_0_0
abbrev rF : Rect S190x95 := Rect.unit (s := S190x95) ![0, 0] S190x95.size inb_S190x95_S190x95_0_0

variable (c : Dev nD) (A : Args)

/-- A load. -/
abbrev ld {s : Shape} (m : Memref sig .tc .vmem s .f32) (r : Rect s) (μ : M F) : Vec F r.shape .f32 :=
  m.view.readAt (Elt F) r.toLoadRect (μ (m.view.loc c))
/-- A store. -/
abbrev st {s : Shape} (m : Memref sig .tc .vmem s .f32) (r : Rect s) (w : Vec F r.shape .f32) (μ : M F) : M F :=
  put c.tc m r w μ

/-- Whether the point's rows are the upper half's. -/
abbrev upper (i : grid0.Coords) : BitVec 1 := Scalar.cmpi .slt (BitVec.ofNat 32 (i 0).val) 12#32

/-- The pairs of endpoint values of one batch, interleaved: what the first stage stores. -/
abbrev pairs (u : BitVec 1) (a1 b1 a2 b2 : Vec F S1x32x8x95 .f32) (e : Vec F S190x190 .f32) : FVec F S1x32x8x190 .f32 :=
  shapeCast S1x32x8x190
    (shapeCast S32x8x190
      (matmul dot_S256x190_S190x190_S256x190_1_0_0_1_n_n (some .fp32)
        (shapeCast S256x190
          (concatenate S32x8x190 2
            [⟨S32x8x95, Scalar.select u (shapeCast S32x8x95 a1 shapeCasts_S1x32x8x95_S32x8x95)
                (shapeCast S32x8x95 b1 shapeCasts_S1x32x8x95_S32x8x95)⟩,
             ⟨S32x8x95, Scalar.select u (shapeCast S32x8x95 a2 shapeCasts_S1x32x8x95_S32x8x95)
                (shapeCast S32x8x95 b2 shapeCasts_S1x32x8x95_S32x8x95)⟩]
            concatenates_S32x8x95_S32x8x95_S32x8x190_d2)
          shapeCasts_S32x8x190_S256x190)
        e (constant S256x190 .f32 0x00000000#32))
      shapeCasts_S256x190_S32x8x190)
    shapeCasts_S32x8x190_S1x32x8x190

/-- The first stage at batch `b`. -/
abbrev stage1 (u : BitVec 1) (e : Vec F S190x190 .f32) (b : Fin 8) (μ : M F) : M F :=
  st c A.arg9 (rX b) (pairs u (ld c A.arg1 (rA b) μ) (ld c A.arg2 (rB b) μ) (ld c A.arg1 (rA' b) μ) (ld c A.arg3 (rB b) μ) e) μ

/-- One input channel's contribution to two output channels' accumulators. -/
abbrev mac (x : Vec F S1x1x8x190 .f32) (w : Vec F S2x1x8x190 .f32) (a : FVec F S2x8x190 .f32) : FVec F S2x8x190 .f32 :=
  addf a (mulf (broadcastTo S2x8x190 (shapeCast S1x8x190 (shapeCast S8x190 x shapeCasts_S1x1x8x190_S8x190)
    shapeCasts_S8x190_S1x8x190) broadcasts_S1x8x190_S2x8x190) (shapeCast S2x8x190 w shapeCasts_S2x1x8x190_S2x8x190))

/-- The accumulators of the output channels `2 o` and `2 o + 1` at batch `b`. -/
abbrev acc (μ : M F) (o : Fin 16) (b : Fin 8) : FVec F S2x8x190 .f32 :=
  upto (fun ic a => mac (ld c A.arg9 (rR b ic) μ) (ld c A.arg4 (rW o ic) μ) a)
    (broadcast S2x8x190 (Scalar.ofBits .f32 0x00000000#32)) 32 (Nat.le_refl 32)

/-- The second stage at output channels `2 o` and `2 o + 1`. -/
abbrev stage2 (o : Fin 16) (μ : M F) : M F :=
  upto (fun b ν => st c A.arg10 (rS b o) (shapeCast S1x2x8x190 (acc c A μ o b) shapeCasts_S2x8x190_S1x2x8x190) ν)
    μ 8 (Nat.le_refl 8)

/-- The bias as a column. -/
abbrev biasCol (v : Vec F S1x32 .f32) : FVec F S32x1x1 .f32 :=
  shapeCast S32x1x1 (shapeCast S32 (shapeCast S1x32 v shapeCasts_S1x32_S1x32) shapeCasts_S1x32_S32) shapeCasts_S32_S32x1x1

/-- The pairs added up, and the bias: what the third stage stores. -/
abbrev folded (v : Vec F S1x32x8x190 .f32) (f : Vec F S190x95 .f32) (z : FVec F S32x1x1 .f32) : FVec F S1x32x8x95 .f32 :=
  shapeCast S1x32x8x95
    (addf (shapeCast S32x8x95
        (matmul dot_S256x190_S190x95_S256x95_1_0_0_1_n_n (some .fp32)
          (shapeCast S256x190 (shapeCast S32x8x190 v shapeCasts_S1x32x8x190_S32x8x190) shapeCasts_S32x8x190_S256x190)
          f (constant S256x95 .f32 0x00000000#32))
        shapeCasts_S256x95_S32x8x95)
      (broadcastTo S32x8x95 z broadcasts_S32x1x1_S32x8x95))
    shapeCasts_S32x8x95_S1x32x8x95

/-- The third stage at batch `b`. -/
abbrev stage3 (f : Vec F S190x95 .f32) (z : FVec F S32x1x1 .f32) (b : Fin 8) (μ : M F) : M F :=
  st c A.arg8 (rB b) (folded (ld c A.arg10 (rX b) μ) f z) μ

/-- The memory after each stage. -/
abbrev mem1 (u : BitVec 1) (μ : M F) : M F := upto (stage1 c A u (ld c A.arg6 rE μ)) μ 8 (Nat.le_refl 8)
abbrev mem2 (μ : M F) : M F := upto (stage2 c A) μ 16 (Nat.le_refl 16)
abbrev mem3 (f : Vec F S190x95 .f32) (μ : M F) : M F :=
  upto (stage3 c A f (biasCol (ld c A.arg5 rBias μ))) μ 8 (Nat.le_refl 8)
/-- The memory the body leaves. -/
abbrev memOut (u : BitVec 1) (μ : M F) : M F := mem3 c A (ld c A.arg7 rF μ) (mem2 c A (mem1 c A u μ))

/-! ## The buffers named -/

abbrev N : Type := Option (Loc nD τ sig)
abbrev nm {s : Shape} (m : Memref sig .tc .vmem s .f32) : N := some (m.view.loc c.tc)

abbrev named1 (b : Fin 8) (cur : List N) : List N :=
  nm c A.arg9 :: nm c A.arg9 :: nm c A.arg3 :: nm c A.arg1 :: nm c A.arg2 :: nm c A.arg1 :: cur
abbrev named2 (cur : List N) : List N :=
  upto (n := 32) (fun _ l => nm c A.arg9 :: nm c A.arg9 :: nm c A.arg9 :: nm c A.arg9 :: nm c A.arg9 :: nm c A.arg9 ::
    nm c A.arg9 :: nm c A.arg9 :: nm c A.arg4 :: l) cur 32 (Nat.le_refl 32)
abbrev named (cur : List N) : List (List N) :=
  [] :: upto (n := 8) (fun b l => (nm c A.arg8 :: nm c A.arg8 :: nm c A.arg10 :: if b.val = 0 then [nm c A.arg5] else []) :: l)
    (upto (n := 16) (fun _ l => upto (n := 8) (fun b l => (nm c A.arg10 :: nm c A.arg10 ::
        if b.val = 0 then named2 c A [] else []) :: l) l 8 (Nat.le_refl 8))
      (upto (n := 8) (fun b l => named1 c A b (if b.val = 0 then [nm c A.arg7, nm c A.arg6] else []) :: l) [] 8 (Nat.le_refl 8))
      16 (Nat.le_refl 16)) 8 (Nat.le_refl 8)

set_option maxHeartbeats 0 in
/-- The printed body is the three stages. -/
theorem exec_body (i : grid0.Coords) (h1 : A.arg1.IsWhole) (h2 : A.arg2.IsWhole) (h3 : A.arg3.IsWhole) (h4 : A.arg4.IsWhole)
    (h5 : A.arg5.IsWhole) (h6 : A.arg6.IsWhole) (h7 : A.arg7.IsWhole) (h8 : A.arg8.IsWhole) (h9 : A.arg9.IsWhole)
    (h10 : A.arg10.IsWhole) (μ : M F) :
    exec c.tc (cc0__body (F := F) i A.arg1 h1 A.arg2 h2 A.arg3 h3 A.arg4 h4 A.arg5 h5 A.arg6 h6 A.arg7 h7 A.arg8 h8
      A.arg9 h9 A.arg10 h10) μ [] [] = ⟨memOut c A (upper i) μ, named c A []⟩ := by
  sl_kernel_rfl

/-! ## What the stages leave -/

/-- The buffers of the operands. -/
abbrev locs : List (Loc nD τ sig) :=
  [A.arg1.view.loc c.tc, A.arg2.view.loc c.tc, A.arg3.view.loc c.tc, A.arg4.view.loc c.tc, A.arg5.view.loc c.tc,
   A.arg6.view.loc c.tc, A.arg7.view.loc c.tc, A.arg8.view.loc c.tc, A.arg9.view.loc c.tc, A.arg10.view.loc c.tc]

/-- Two operands lie in two buffers. -/
theorem locs_ne {c : Dev nD} {A : Args} (h : (locs c A).Nodup) (i j : Fin 10) (hij : i ≠ j) :
    (locs c A)[i] ≠ (locs c A)[j] := fun e =>
  hij (Fin.ext ((List.Nodup.getElem_inj_iff h).mp e))

/-- Where the rectangles place their indices. -/
theorem rX_emb (b : Fin 8) (o : Fin 32) (r : Fin 8) (k : Fin 190) :
    (ix4 b o r k : S8x32x8x190.Idx) = (rX b).emb (ix4 0 o r k : S1x32x8x190.Idx) := by
  idx_ext
theorem rB_emb (b : Fin 8) (o : Fin 32) (r : Fin 8) (j : Fin 95) :
    (ix4 b o r j : S8x32x8x95.Idx) = (rB b).emb (ix4 0 o r j : S1x32x8x95.Idx) := by
  idx_ext
theorem rS_emb (b : Fin 8) (o : Fin 32) (r : Fin 8) (k : Fin 190) :
    (ix4 b o r k : S8x32x8x190.Idx)
      = (rS b ⟨o.val / 2, by omega⟩).emb (ix4 0 ⟨o.val % 2, by omega⟩ r k : S1x2x8x190.Idx) := by
  funext a; apply Fin.ext; rw [Rect.emb_apply]
  match a with
  | ⟨0, _⟩ => simp
  | ⟨1, _⟩ => show o.val = 2 * (o.val / 2) + 1 * (o.val % 2); omega
  | ⟨2, _⟩ => simp
  | ⟨3, _⟩ => simp

/-- Rectangles of different batches or channels share no index. -/
theorem rX_apart (b b' : Fin 8) (h : b ≠ b') (x : (rX b).shape.Idx) (x' : (rX b').shape.Idx) : (rX b).emb x ≠ (rX b').emb x' := by
  intro e
  have := congrArg (fun y => (y 0).val) e
  simp only [Rect.emb_apply] at this
  have hx : (x 0).val < 1 := (x 0).isLt
  have hx' : (x' 0).val < 1 := (x' 0).isLt
  exact h (Fin.ext (by simp at this; omega))
theorem rB_apart (b b' : Fin 8) (h : b ≠ b') (x : (rB b).shape.Idx) (x' : (rB b').shape.Idx) : (rB b).emb x ≠ (rB b').emb x' := by
  intro e
  have := congrArg (fun y => (y 0).val) e
  simp only [Rect.emb_apply] at this
  have hx : (x 0).val < 1 := (x 0).isLt
  have hx' : (x' 0).val < 1 := (x' 0).isLt
  exact h (Fin.ext (by simp at this; omega))
theorem rS_apart (o : Fin 16) (b b' : Fin 8) (h : b ≠ b') (x : (rS b o).shape.Idx) (x' : (rS b' o).shape.Idx) :
    (rS b o).emb x ≠ (rS b' o).emb x' := by
  intro e
  have := congrArg (fun y => (y 0).val) e
  simp only [Rect.emb_apply] at this
  have hx : (x 0).val < 1 := (x 0).isLt
  have hx' : (x' 0).val < 1 := (x' 0).isLt
  exact h (Fin.ext (by simp at this; omega))
theorem rS_apart' (o o' : Fin 16) (b b' : Fin 8) (h : o ≠ o') (x : (rS b o).shape.Idx) (x' : (rS b' o').shape.Idx) :
    (rS b o).emb x ≠ (rS b' o').emb x' := by
  intro e
  have := congrArg (fun y => (y 1).val) e
  simp only [Rect.emb_apply] at this
  have hx : (x 1).val < 2 := (x 1).isLt
  have hx' : (x' 1).val < 2 := (x' 1).isLt
  exact h (Fin.ext (by simp at this; omega))

/-- The interleaved endpoint values of a block. -/
def X2 (u : BitVec 1) (x1 : Vec F S8x32x8x96 .f32) (x2 x3 : Vec F S8x32x8x95 .f32) (x6 : Vec F S190x190 .f32) :
    Vec F S8x32x8x190 .f32 := fun y =>
  pairs u (sub (rA (y 0)) x1) (sub (rB (y 0)) x2) (sub (rA' (y 0)) x1) (sub (rB (y 0)) x3) (sub rE x6) (ix4 0 (y 1) (y 2) (y 3))

/-- The accumulators of the output channels `2 o` and `2 o + 1` at batch `b`, from the endpoint values and the weights. -/
def accV (X : Vec F S8x32x8x190 .f32) (x4 : Vec F S32x32x8x190 .f32) (o : Fin 16) (b : Fin 8) : FVec F S2x8x190 .f32 :=
  upto (fun ic a => mac (sub (rR b ic) X) (sub (rW o ic) x4) a)
    (broadcast S2x8x190 (Scalar.ofBits .f32 0x00000000#32)) 32 (Nat.le_refl 32)

/-- The accumulators of a block. -/
def ACC (X : Vec F S8x32x8x190 .f32) (x4 : Vec F S32x32x8x190 .f32) : Vec F S8x32x8x190 .f32 := fun y =>
  shapeCast S1x2x8x190 (accV X x4 ⟨(y 1).val / 2, by have : (y 1).val < 32 := (y 1).isLt; omega⟩ (y 0))
    shapeCasts_S2x8x190_S1x2x8x190 (ix4 0 ⟨(y 1).val % 2, by omega⟩ (y 2) (y 3))

/-- The result block, from the accumulators. -/
def OUT (Y : Vec F S8x32x8x190 .f32) (x5 : Vec F S1x32 .f32) (x7 : Vec F S190x95 .f32) : Vec F S8x32x8x95 .f32 := fun y =>
  folded (sub (rX (y 0)) Y) (sub rF x7) (biasCol (sub rBias x5)) (ix4 0 (y 1) (y 2) (y 3))

/-- The result block, from the operands' blocks. -/
def bodyOut (u : BitVec 1) (x1 : Vec F S8x32x8x96 .f32) (x2 x3 : Vec F S8x32x8x95 .f32) (x4 : Vec F S32x32x8x190 .f32)
    (x5 : Vec F S1x32 .f32) (x6 : Vec F S190x190 .f32) (x7 : Vec F S190x95 .f32) : Vec F S8x32x8x95 .f32 :=
  OUT (ACC (X2 u x1 x2 x3 x6) x4) x5 x7

variable {c A}

/-- A load depends on its own buffer alone. -/
theorem ld_congr {s : Shape} (m : Memref sig .tc .vmem s .f32) (r : Rect s) {μ ν : M F}
    (e : μ (m.view.loc c.tc) = ν (m.view.loc c.tc)) : ld c m r μ = ld c m r ν :=
  congrArg (m.view.readAt (Elt F) r.toLoadRect) e

/-- An accumulator's value depends on the buffers that it reads. -/
theorem acc_congr {μ ν : M F} (o : Fin 16) (b : Fin 8) (e9 : μ (A.arg9.view.loc c.tc) = ν (A.arg9.view.loc c.tc))
    (e4 : μ (A.arg4.view.loc c.tc) = ν (A.arg4.view.loc c.tc)) : acc c A μ o b = acc c A ν o b := by
  have h : (fun (ic : Fin 32) (a : FVec F S2x8x190 .f32) => mac (ld c A.arg9 (rR b ic) μ) (ld c A.arg4 (rW o ic) μ) a)
      = fun ic a => mac (ld c A.arg9 (rR b ic) ν) (ld c A.arg4 (rW o ic) ν) a := by
    funext ic a
    rw [ld_congr A.arg9 (rR b ic) e9, ld_congr A.arg4 (rW o ic) e4]
  exact congrArg (fun f => upto f (broadcast S2x8x190 (Scalar.ofBits .f32 0x00000000#32)) 32 (Nat.le_refl 32)) h

/-- The first loop changes the first scratch buffer alone, and leaves the interleaved nodes there. -/
theorem mem1_spec (h : (locs c A).Nodup) (u : BitVec 1) (μ : M F) :
    (∀ ℓ, ℓ ≠ A.arg9.view.loc c.tc → mem1 c A u μ ℓ = μ ℓ)
    ∧ val c.tc A.arg9 (mem1 c A u μ)
      = X2 u (val c.tc A.arg1 μ) (val c.tc A.arg2 μ) (val c.tc A.arg3 μ) (val c.tc A.arg6 μ) := by
  obtain ⟨h1, h2, -⟩ := upto_put c.tc A.arg9 rX rX_apart
    (fun b ν => pairs u (ld c A.arg1 (rA b) ν) (ld c A.arg2 (rB b) ν) (ld c A.arg1 (rA' b) ν) (ld c A.arg3 (rB b) ν)
      (ld c A.arg6 rE μ))
    (fun b μ ν hm => by
      rw [ld_congr A.arg1 (rA b) (hm _ (locs_ne h 0 8 (by decide))), ld_congr A.arg2 (rB b) (hm _ (locs_ne h 1 8 (by decide))),
        ld_congr A.arg1 (rA' b) (hm _ (locs_ne h 0 8 (by decide))), ld_congr A.arg3 (rB b) (hm _ (locs_ne h 2 8 (by decide)))])
    μ 8 (Nat.le_refl 8)
  refine ⟨h1, funext fun y => ?_⟩
  idx_vars y
  refine (congrArg (val c.tc A.arg9 _) (rX_emb y0 y1 y2 y3)).trans ?_
  exact h2 y0 y0.isLt (ix4 0 y1 y2 y3)

/-- The second loop changes the second scratch buffer alone, and leaves the accumulated products there. -/
theorem mem2_spec (h : (locs c A).Nodup) (μ : M F) :
    (∀ ℓ, ℓ ≠ A.arg10.view.loc c.tc → mem2 c A μ ℓ = μ ℓ)
    ∧ val c.tc A.arg10 (mem2 c A μ) = ACC (val c.tc A.arg9 μ) (val c.tc A.arg4 μ) := by
  have key : ∀ (k : Nat) (hk : k ≤ 16),
      (∀ ℓ, ℓ ≠ A.arg10.view.loc c.tc → upto (stage2 c A) μ k hk ℓ = μ ℓ)
      ∧ (∀ o : Fin 16, o.val < k → ∀ b x, val c.tc A.arg10 (upto (stage2 c A) μ k hk) ((rS b o).emb x)
          = shapeCast S1x2x8x190 (acc c A μ o b) shapeCasts_S2x8x190_S1x2x8x190 x) := by
    intro k
    induction k with
    | zero => intro hk; exact ⟨fun _ _ => rfl, fun o ho => absurd ho (Nat.not_lt_zero _)⟩
    | succ k ih =>
      intro hk
      obtain ⟨i1, i2⟩ := ih (Nat.le_of_succ_le hk)
      obtain ⟨h1, h2, h3⟩ := upto_put c.tc A.arg10 (fun b => rS b ⟨k, hk⟩) (rS_apart ⟨k, hk⟩)
        (fun b _ => shapeCast S1x2x8x190 (acc c A (upto (stage2 c A) μ k (Nat.le_of_succ_le hk)) ⟨k, hk⟩ b)
          shapeCasts_S2x8x190_S1x2x8x190)
        (fun _ _ _ _ => rfl) (upto (stage2 c A) μ k (Nat.le_of_succ_le hk)) 8 (Nat.le_refl 8)
      refine ⟨fun ℓ hℓ => (h1 ℓ hℓ).trans (i1 ℓ hℓ), fun o ho b x => ?_⟩
      by_cases he : o = ⟨k, hk⟩
      · subst he
        refine (h2 b b.isLt x).trans ?_
        rw [acc_congr ⟨k, hk⟩ b (i1 _ (locs_ne h 8 9 (by decide))) (i1 _ (locs_ne h 3 9 (by decide)))]
      · exact (h3 _ fun b' x' => rS_apart' _ _ _ _ he _ _).trans
          (i2 o (Nat.lt_of_le_of_ne (Nat.lt_succ_iff.mp ho) fun hh => he (Fin.ext hh)) b x)
  obtain ⟨h1, h2⟩ := key 16 (Nat.le_refl 16)
  refine ⟨h1, funext fun y => ?_⟩
  idx_vars y
  refine (congrArg (val c.tc A.arg10 _) (rS_emb y0 y1 y2 y3)).trans ?_
  exact h2 ⟨y1.val / 2, by omega⟩ (Fin.isLt _) y0 (ix4 0 ⟨y1.val % 2, by omega⟩ y2 y3)

/-- The third loop changes the result's buffer alone, and leaves the folded sums there. -/
theorem mem3_spec (h : (locs c A).Nodup) (f : Vec F S190x95 .f32) (μ : M F) :
    (∀ ℓ, ℓ ≠ A.arg8.view.loc c.tc → mem3 c A f μ ℓ = μ ℓ)
    ∧ val c.tc A.arg8 (mem3 c A f μ) = fun y => folded (sub (rX (y 0)) (val c.tc A.arg10 μ)) f
        (biasCol (sub rBias (val c.tc A.arg5 μ))) (ix4 0 (y 1) (y 2) (y 3)) := by
  obtain ⟨h1, h2, -⟩ := upto_put c.tc A.arg8 rB rB_apart
    (fun b ν => folded (ld c A.arg10 (rX b) ν) f (biasCol (ld c A.arg5 rBias μ)))
    (fun b μ ν hm => by rw [ld_congr A.arg10 (rX b) (hm _ (locs_ne h 9 7 (by decide)))])
    μ 8 (Nat.le_refl 8)
  refine ⟨h1, funext fun y => ?_⟩
  idx_vars y
  refine (congrArg (val c.tc A.arg8 _) (rB_emb y0 y1 y2 y3)).trans ?_
  exact h2 y0 y0.isLt (ix4 0 y1 y2 y3)

/-- The body leaves its operands as they are but the result's and the scratch buffers, and in the result's the block's
    value. -/
theorem memOut_spec (h : (locs c A).Nodup) (u : BitVec 1) (μ : M F) :
    (∀ ℓ, ℓ ≠ A.arg8.view.loc c.tc → ℓ ≠ A.arg9.view.loc c.tc → ℓ ≠ A.arg10.view.loc c.tc → memOut c A u μ ℓ = μ ℓ)
    ∧ val c.tc A.arg8 (memOut c A u μ)
      = bodyOut u (val c.tc A.arg1 μ) (val c.tc A.arg2 μ) (val c.tc A.arg3 μ) (val c.tc A.arg4 μ) (val c.tc A.arg5 μ)
          (val c.tc A.arg6 μ) (val c.tc A.arg7 μ) := by
  obtain ⟨a1, a2⟩ := mem1_spec h u μ
  obtain ⟨b1, b2⟩ := mem2_spec h (mem1 c A u μ)
  obtain ⟨d1, d2⟩ := mem3_spec h (ld c A.arg7 rF μ) (mem2 c A (mem1 c A u μ))
  refine ⟨fun ℓ e8 e9 e10 => (d1 ℓ e8).trans ((b1 ℓ e10).trans (a1 ℓ e9)), d2.trans ?_⟩
  rw [b2, a2, val_congr c.tc A.arg4 (a1 _ (locs_ne h 3 8 (by decide))),
    val_congr c.tc A.arg5 ((b1 _ (locs_ne h 4 9 (by decide))).trans (a1 _ (locs_ne h 4 8 (by decide))))]
  rfl

/-- Every buffer the body names is an operand's. -/
theorem named_mem : ∀ l ∈ named c A [], ∀ x ∈ l, ∃ ℓ ∈ locs c A, x = some ℓ := by
  have hc : ∀ (i : Fin 10) (l : List N), (∀ x ∈ l, ∃ ℓ ∈ locs c A, x = some ℓ) →
      ∀ x ∈ some (locs c A)[i] :: l, ∃ ℓ ∈ locs c A, x = some ℓ := fun i l hl x hx => by
    rcases List.mem_cons.mp hx with rfl | hx
    · exact ⟨_, List.getElem_mem _, rfl⟩
    · exact hl x hx
  have hn : ∀ x ∈ ([] : List N), ∃ ℓ ∈ locs c A, x = some ℓ := fun x hx => absurd hx List.not_mem_nil
  have hL : ∀ (l : List N) (L : List (List N)), (∀ x ∈ l, ∃ ℓ ∈ locs c A, x = some ℓ) →
      (∀ l ∈ L, ∀ x ∈ l, ∃ ℓ ∈ locs c A, x = some ℓ) → ∀ l' ∈ l :: L, ∀ x ∈ l', ∃ ℓ ∈ locs c A, x = some ℓ :=
    fun l L hl hL l' hl' => by
      rcases List.mem_cons.mp hl' with rfl | h
      · exact hl
      · exact hL l' h
  have h2 : ∀ x ∈ named2 c A [], ∃ ℓ ∈ locs c A, x = some ℓ :=
    upto_ind (fun l => ∀ x ∈ l, ∃ ℓ ∈ locs c A, x = some ℓ) hn (fun _ l hl =>
      hc 8 _ (hc 8 _ (hc 8 _ (hc 8 _ (hc 8 _ (hc 8 _ (hc 8 _ (hc 8 _ (hc 3 _ hl))))))))) 32 (Nat.le_refl 32)
  refine hL _ _ hn (upto_ind (fun L => ∀ l ∈ L, ∀ x ∈ l, ∃ ℓ ∈ locs c A, x = some ℓ) (upto_ind
    (fun L => ∀ l ∈ L, ∀ x ∈ l, ∃ ℓ ∈ locs c A, x = some ℓ) (upto_ind
    (fun L => ∀ l ∈ L, ∀ x ∈ l, ∃ ℓ ∈ locs c A, x = some ℓ) (fun l hl => absurd hl List.not_mem_nil) ?_ 8 (Nat.le_refl 8))
      (fun o L hL' => upto_ind (fun L => ∀ l ∈ L, ∀ x ∈ l, ∃ ℓ ∈ locs c A, x = some ℓ) hL' ?_ 8 (Nat.le_refl 8))
      16 (Nat.le_refl 16)) ?_ 8 (Nat.le_refl 8))
  · intro b L h
    refine hL _ _ (hc 8 _ (hc 8 _ (hc 2 _ (hc 0 _ (hc 1 _ (hc 0 _ ?_)))))) h
    split
    · exact hc 6 _ (hc 5 _ hn)
    · exact hn
  · intro b L h
    refine hL _ _ (hc 9 _ (hc 9 _ ?_)) h
    split
    · exact h2
    · exact hn
  · intro b L h
    refine hL _ _ (hc 7 _ (hc 7 _ (hc 9 _ ?_))) h
    split
    · exact hc 4 _ hn
    · exact hn

end Cert.KernelIdeal.Val

end

end
-- ==== Proof.Setup.lean ====
/- The launch of the kernel: every run ends, leaves the arguments as they were, and the result's array holds the blocks the
   body's evaluation gives. -/
module

public import proofs.«01_k».proof.Proof.Gen.KernelIdeal.Launch
public import proofs.«01_k».proof.Proof.Gen.KernelIdeal.Points
public import proofs.«01_k».proof.Proof.Rolled
public import Idealize.ShloMosaic.Lib.Pipeline.FrameBody
public import Idealize.ShloMosaic.Lib.Pipeline.FrameSuffix
public import Idealize.ShloMosaic.Lib.Tactic
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Exec

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c))⟩) h

/-! ## The operands of the body -/

/-- Each window's current staging memref at point `t`, spelled as the pipeline passes it (`bodyAt0`), and its wholeness. -/
abbrev ms0_0 (t : Fin cfg0.N) : Memref sig .tc .vmem S8x32x8x96 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x32x8x95 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x32x8x95 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x32x8x190 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S190x190 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S190x95 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x32x8x95 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S8x32x8x190 .f32 := Memref.whole cc0_scratch0
abbrev scM0_1 : Memref sig .tc .vmem S8x32x8x190 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Val

end

end
-- ==== Proof.Body.lean ====
/- The launch of the kernel: every run ends, leaves the arguments as they were, and the result's array holds the blocks the
   body's evaluation gives. -/
module

public import proofs.«01_k».proof.Proof.Rolled
public import Idealize.ShloMosaic.Lib.Pipeline.FrameBody
public import Idealize.ShloMosaic.Lib.Pipeline.FrameSuffix
public import Idealize.ShloMosaic.Lib.Tactic
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exec

variable {F : FTy → Type} [FloatOps F] [Facts]
local notation "𝕄" => MT nD τ sig Unit (Elt F) ℕ (UR sig nD τ) ℕ

/-! ## The body, on any operands -/

/-- The ten operands in hand: the seven blocks read at their contents, the result's block at `P`, the two scratch buffers at
    some contents. -/
def hand (c : Dev nD) (A : Args) (x1 : Vec F S8x32x8x96 .f32) (x2 x3 : Vec F S8x32x8x95 .f32) (x4 : Vec F S32x32x8x190 .f32)
    (x5 : Vec F S1x32 .f32) (x6 : Vec F S190x190 .f32) (x7 : Vec F S190x95 .f32) (P : sProp 𝕄) : sProp 𝕄 :=
  iprop(owns (c : Thread nD τ) A.arg1 fullShare x1 ∗ owns (c : Thread nD τ) A.arg2 fullShare x2
    ∗ owns (c : Thread nD τ) A.arg3 fullShare x3 ∗ owns (c : Thread nD τ) A.arg4 fullShare x4
    ∗ owns (c : Thread nD τ) A.arg5 fullShare x5 ∗ owns (c : Thread nD τ) A.arg6 fullShare x6
    ∗ owns (c : Thread nD τ) A.arg7 fullShare x7 ∗ P
    ∗ (∃ d, owns (c : Thread nD τ) A.arg9 fullShare d) ∗ (∃ d, owns (c : Thread nD τ) A.arg10 fullShare d))

set_option maxHeartbeats 1600000 in
/-- The body, run with its ten operands in hand, whole and at any contents: it leaves the block's value in the result's
    buffer and the seven blocks it reads as they were. -/
theorem body_triple (base : M F) (c : Dev nD) (i : grid0.Coords) (A : Args) (h1 : A.arg1.IsWhole) (h2 : A.arg2.IsWhole)
    (h3 : A.arg3.IsWhole) (h4 : A.arg4.IsWhole) (h5 : A.arg5.IsWhole) (h6 : A.arg6.IsWhole) (h7 : A.arg7.IsWhole)
    (h8 : A.arg8.IsWhole) (h9 : A.arg9.IsWhole) (h10 : A.arg10.IsWhole) (hN : (locs c A).Nodup)
    (x1 : Vec F S8x32x8x96 .f32) (x2 x3 : Vec F S8x32x8x95 .f32) (x4 : Vec F S32x32x8x190 .f32)
    (x5 : Vec F S1x32 .f32) (x6 : Vec F S190x190 .f32) (x7 : Vec F S190x95 .f32) :
    hand c A x1 x2 x3 x4 x5 x6 x7 iprop(∃ d, owns (c : Thread nD τ) A.arg8 fullShare d)
      ⊢ wp frame (wpE (defs₀ (F := F)) Variants.none c none) Set.univ
          (cc0__body (F := F) i A.arg1 h1 A.arg2 h2 A.arg3 h3 A.arg4 h4 A.arg5 h5 A.arg6 h6 A.arg7 h7 A.arg8 h8 A.arg9 h9
            A.arg10 h10)
          fun _ => hand c A x1 x2 x3 x4 x5 x6 x7
            (owns (c : Thread nD τ) A.arg8 fullShare (bodyOut (upper i) x1 x2 x3 x4 x5 x6 x7)) := by
  unfold hand
  simp only [owns_of_isWhole (c : Thread nD τ) h1, owns_of_isWhole (c : Thread nD τ) h2, owns_of_isWhole (c : Thread nD τ) h3,
    owns_of_isWhole (c : Thread nD τ) h4, owns_of_isWhole (c : Thread nD τ) h5, owns_of_isWhole (c : Thread nD τ) h6,
    owns_of_isWhole (c : Thread nD τ) h7, owns_of_isWhole (c : Thread nD τ) h8, owns_of_isWhole (c : Thread nD τ) h9,
    owns_of_isWhole (c : Thread nD τ) h10]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%d8, %f8, %e8, H8⟩, ⟨%d9, %f9, %e9, H9⟩, ⟨%d10, %f10, %e10, H10⟩⟩
  obtain ⟨μ, m1, m2, m3, m4, m5, m6, m7, m8, m9, m10, -⟩ := exists_mem base
    [⟨A.arg1.view.loc c.tc, f1⟩, ⟨A.arg2.view.loc c.tc, f2⟩, ⟨A.arg3.view.loc c.tc, f3⟩, ⟨A.arg4.view.loc c.tc, f4⟩,
     ⟨A.arg5.view.loc c.tc, f5⟩, ⟨A.arg6.view.loc c.tc, f6⟩, ⟨A.arg7.view.loc c.tc, f7⟩, ⟨A.arg8.view.loc c.tc, f8⟩,
     ⟨A.arg9.view.loc c.tc, f9⟩, ⟨A.arg10.view.loc c.tc, f10⟩] hN
  dsimp only at m1 m2 m3 m4 m5 m6 m7 m8 m9 m10
  subst m1 m2 m3 m4 m5 m6 m7 m8 m9 m10
  obtain ⟨keep, out⟩ := memOut_spec hN (upper i) μ
  have k1 := keep _ (locs_ne hN 0 7 (by decide)) (locs_ne hN 0 8 (by decide)) (locs_ne hN 0 9 (by decide))
  have k2 := keep _ (locs_ne hN 1 7 (by decide)) (locs_ne hN 1 8 (by decide)) (locs_ne hN 1 9 (by decide))
  have k3 := keep _ (locs_ne hN 2 7 (by decide)) (locs_ne hN 2 8 (by decide)) (locs_ne hN 2 9 (by decide))
  have k4 := keep _ (locs_ne hN 3 7 (by decide)) (locs_ne hN 3 8 (by decide)) (locs_ne hN 3 9 (by decide))
  have k5 := keep _ (locs_ne hN 4 7 (by decide)) (locs_ne hN 4 8 (by decide)) (locs_ne hN 4 9 (by decide))
  have k6 := keep _ (locs_ne hN 5 7 (by decide)) (locs_ne hN 5 8 (by decide)) (locs_ne hN 5 9 (by decide))
  have k7 := keep _ (locs_ne hN 6 7 (by decide)) (locs_ne hN 6 8 (by decide)) (locs_ne hN 6 9 (by decide))
  rw [show val c.tc A.arg1 μ = x1 from e1, show val c.tc A.arg2 μ = x2 from e2, show val c.tc A.arg3 μ = x3 from e3,
    show val c.tc A.arg4 μ = x4 from e4, show val c.tc A.arg5 μ = x5 from e5, show val c.tc A.arg6 μ = x6 from e6,
    show val c.tc A.arg7 μ = x7 from e7] at out
  iapply (wp_exec (S := (locs c A).toFinset) Variants.none (c : Thread nD τ) none Set.univ
    (cc0__body (F := F) i A.arg1 h1 A.arg2 h2 A.arg3 h3 A.arg4 h4 A.arg5 h5 A.arg6 h6 A.arg7 h7 A.arg8 h8 A.arg9 h9
            A.arg10 h10) μ [] [] ?_ ?_)
  · intro l hl x hx
    rw [exec_body] at hl
    obtain ⟨ℓ, hℓ, e⟩ := named_mem l hl x hx
    exact ⟨ℓ, List.mem_toFinset.mpr hℓ, e⟩
  · intro a
    rw [exec_body, held_toFinset hN]
    show heldL (locs c A) (memOut c A (upper i) μ) ⊢ _
    unfold heldL
    simp only [locs, List.foldr]
    iintro ⟨H1, H2, H3, H4, H5, H6, H7, H8, H9, H10, -⟩
    isplitl [H1]
    · iexists _; isplitr; rotate_left; · iexact H1
      ipureintro; exact (congrArg (A.arg1.view.read (Elt F)) k1).trans e1
    isplitl [H2]
    · iexists _; isplitr; rotate_left; · iexact H2
      ipureintro; exact (congrArg (A.arg2.view.read (Elt F)) k2).trans e2
    isplitl [H3]
    · iexists _; isplitr; rotate_left; · iexact H3
      ipureintro; exact (congrArg (A.arg3.view.read (Elt F)) k3).trans e3
    isplitl [H4]
    · iexists _; isplitr; rotate_left; · iexact H4
      ipureintro; exact (congrArg (A.arg4.view.read (Elt F)) k4).trans e4
    isplitl [H5]
    · iexists _; isplitr; rotate_left; · iexact H5
      ipureintro; exact (congrArg (A.arg5.view.read (Elt F)) k5).trans e5
    isplitl [H6]
    · iexists _; isplitr; rotate_left; · iexact H6
      ipureintro; exact (congrArg (A.arg6.view.read (Elt F)) k6).trans e6
    isplitl [H7]
    · iexists _; isplitr; rotate_left; · iexact H7
      ipureintro; exact (congrArg (A.arg7.view.read (Elt F)) k7).trans e7
    isplitl [H8]
    · iexists _; isplitr; rotate_left; · iexact H8
      ipureintro; exact out
    isplitl [H9]
    · iexists (A.arg9.view.read (Elt F) (memOut c A (upper i) μ (A.arg9.view.loc c.tc))), _; isplitr; rotate_left
      · iexact H9
      ipureintro; rfl
    · iexists (A.arg10.view.read (Elt F) (memOut c A (upper i) μ (A.arg10.view.loc c.tc))), _; isplitr; rotate_left
      · iexact H10
      ipureintro; rfl
  rw [held_toFinset hN]
  unfold heldL
  simp only [locs, List.foldr]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  rw [held_empty]
  iempintro

end Cert.KernelIdeal.Val

end

end
-- ==== Proof.Frame.lean ====
/- The launch of the kernel: every run ends, leaves the arguments as they were, and the result's array holds the blocks the
   body's evaluation gives. -/
module

public import proofs.«01_k».proof.Proof.Gen.KernelIdeal.Launch
public import proofs.«01_k».proof.Proof.Gen.KernelIdeal.Points
public import proofs.«01_k».proof.Proof.Setup
public import proofs.«01_k».proof.Proof.Body
public import Idealize.ShloMosaic.Lib.Pipeline.FrameBody
public import Idealize.ShloMosaic.Lib.Pipeline.FrameSuffix
public import Idealize.ShloMosaic.Lib.Tactic
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Exec

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## What the result holds after each point -/

/-- What the result's staging buffer holds after the body at point `t`. -/
def outsAt0 (c : Dev nD) (t : Fin cfg0.N) : Vec F S8x32x8x95 .f32 :=
  bodyOut (upper (grid0.coords t)) (iblk m c 0 t) (iblk m c 1 t) (iblk m c 2 t) (iblk m c 3 t) (iblk m c 4 t) (iblk m c 5 t)
    (iblk m c 6 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The operands of the body at point `t`. -/
abbrev argsAt (t : Fin cfg0.N) : Args where
  arg1 := ms0_0 t
  arg2 := ms0_1 t
  arg3 := ms0_2 t
  arg4 := ms0_3 t
  arg5 := ms0_4 t
  arg6 := ms0_5 t
  arg7 := ms0_6 t
  arg8 := ms0_7 t
  arg9 := scM0_0
  arg10 := scM0_1

theorem refs_nodup : ∀ t : Fin cfg0.N,
    [(ms0_0 t).view.ref, (ms0_1 t).view.ref, (ms0_2 t).view.ref, (ms0_3 t).view.ref, (ms0_4 t).view.ref, (ms0_5 t).view.ref,
      (ms0_6 t).view.ref, (ms0_7 t).view.ref, scM0_0.view.ref, scM0_1.view.ref].Nodup := by decide +kernel

/-- They are ten buffers. -/
theorem argsAt_nodup (c : Dev nD) (t : Fin cfg0.N) : (locs c (argsAt t)).Nodup :=
  List.Nodup.map (f := fun r : Ref sig .tc => (c : Thread nD τ).loc r) (fun a b h =>
    Proc.devRef_injective _ (congrArg Prod.snd h)) (refs_nodup t)

set_option maxHeartbeats 1600000 in
/-- The body at any point: its evaluation (`exec_body`) on the operands' contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r frame (wpE (defs₀ (F := F)) Variants.none c none) Set.univ)
  isplitl [H0 H1 H2 H3 H4 H5 H6 H7 HS0 HS1]
  · iapply (body_triple m c (grid0.coords t) (argsAt t) (hs0_0 t) (hs0_1 t) (hs0_2 t) (hs0_3 t) (hs0_4 t) (hs0_5 t) (hs0_6 t)
      (hs0_7 t) (Memref.isWhole_whole _) (Memref.isWhole_whole _) (argsAt_nodup c t)
      (iblk m c 0 t) (iblk m c 1 t) (iblk m c 2 t) (iblk m c 3 t) (iblk m c 4 t) (iblk m c 5 t) (iblk m c 6 t))
    unfold hand
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iexact HS1
  unfold hand
  iintro %a ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    the claim that the program leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Val

end

end
-- ==== Proof.Words.lean ====
/- The index words of the reference, computed: each contribution's edge and node. -/
module

public import Idealize.ShloMosaic.Lib.ValueIdx
public import Idealize.ShloMosaic.PureOps.Ideal.Laws

@[expose] public section

set_option maxRecDepth 16384

namespace Cert.ReferenceIdeal.RefVal

open Idealize.ShloMosaic

/-- The sign of a word. -/
def sgnW (x : BitVec 32) : BitVec 32 := if x = 0 then 0 else if x.msb then -1 else 1

/-- Division rounding down, as the host spells it. -/
def divW (x y : BitVec 32) : BitVec 32 :=
  Scalar.select (IntOp.andi (IntOp.cmpi .ne (sgnW x) (sgnW y)) (IntOp.cmpi .ne (IntOp.remsi .host x y) 0#32))
    (IntOp.subi (IntOp.divsi .host x y) 1#32) (IntOp.divsi .host x y)

/-- The divisor of a remainder, one in place of zero. -/
def modulusW (y : BitVec 32) : BitVec 32 := Scalar.select (IntOp.cmpi .eq y 0#32) 1#32 y

/-- The remainder with the divisor's sign, as the host spells it. -/
def modW (x y : BitVec 32) : BitVec 32 :=
  Scalar.select
    (IntOp.andi (IntOp.cmpi .ne (IntOp.cmpi .slt (IntOp.remsi .host x (modulusW y)) 0#32) (IntOp.cmpi .slt (modulusW y) 0#32))
      (IntOp.cmpi .ne (IntOp.remsi .host x (modulusW y)) 0#32))
    (IntOp.addi (IntOp.remsi .host x (modulusW y)) (modulusW y)) (IntOp.remsi .host x (modulusW y))

/-- The edge of the contribution numbered `x`. -/
def rowW (x : BitVec 32) : BitVec 32 := divW x 2#32

/-- The node of the contribution numbered `x`. -/
def colW (x : BitVec 32) : BitVec 32 :=
  Scalar.select (IntOp.cmpi .slt (rowW x) 9120#32)
    (IntOp.addi (IntOp.addi (rowW x) (divW (rowW x) 95#32)) (modW x 2#32))
    (IntOp.addi (IntOp.subi (rowW x) 9120#32) (IntOp.muli 96#32 (modW x 2#32)))

/-- An index counted from the end where it is negative. -/
def wrapW (x : BitVec 32) : BitVec 32 := Scalar.select (IntOp.cmpi .slt x 0#32) (IntOp.addi x 9216#32) x

/-- Whether an index is in range. -/
def inW (x : BitVec 32) : BitVec 1 := IntOp.andi (IntOp.cmpi .sge x 0#32) (IntOp.cmpi .sle x 9215#32)

/-- The node of contribution `t`: the two ends of a horizontal edge are neighbours in a row of 96 nodes, of which 95 begin
    an edge; those of a vertical edge are 96 apart. -/
def col (t : Nat) : Nat := if t < 18240 then t / 2 + t / 2 / 95 + t % 2 else t / 2 - 9120 + 96 * (t % 2)

/-- There are 9216 nodes. -/
theorem col_lt {t : Nat} (h : t < 36480) : col t < 9216 := by unfold col; split <;> omega

/-! ## Words of small numbers -/

/-- A small number survives as a word, -/
theorem toNat_small {n : Nat} (h : n < 2147483648) : (BitVec.ofNat 32 n).toNat = n := by
  rw [BitVec.toNat_ofNat, Nat.mod_eq_of_lt (by omega)]

/-- without a sign, -/
theorem msb_small {n : Nat} (h : n < 2147483648) : (BitVec.ofNat 32 n).msb = false := by
  rw [BitVec.msb_eq_false_iff_two_mul_lt, toNat_small h]; omega

/-- A small word read signed. -/
theorem toInt_small {n : Nat} (h : n < 2147483648) : (BitVec.ofNat 32 n).toInt = (n : Int) := by
  rw [BitVec.toInt_eq_toNat_cond, toNat_small h, if_pos (by omega)]

/-- and two of them are equal as words when they are equal. -/
theorem small_inj {a b : Nat} (ha : a < 2147483648) (hb : b < 2147483648) : BitVec.ofNat 32 a = BitVec.ofNat 32 b ↔ a = b :=
  ⟨fun h => by have := congrArg BitVec.toNat h; rwa [toNat_small ha, toNat_small hb] at this, fun h => by rw [h]⟩

/-- Signed comparison of small words is that of the numbers. -/
theorem slt_small {a b : Nat} (ha : a < 2147483648) (hb : b < 2147483648) :
    IntOp.cmpi .slt (BitVec.ofNat 32 a) (BitVec.ofNat 32 b) = BitVec.ofBool (decide (a < b)) := by
  unfold IntOp.cmpi
  show BitVec.ofBool ((BitVec.ofNat 32 a).slt (BitVec.ofNat 32 b)) = _
  rw [BitVec.slt_eq_decide, toInt_small ha, toInt_small hb]
  congr 1
  exact decide_eq_decide.mpr Int.ofNat_lt

/-- The same of the weak comparison. -/
theorem sle_small {a b : Nat} (ha : a < 2147483648) (hb : b < 2147483648) :
    (BitVec.ofNat 32 a).sle (BitVec.ofNat 32 b) = decide (a ≤ b) := by
  rw [BitVec.sle_eq_decide, toInt_small ha, toInt_small hb]
  exact decide_eq_decide.mpr Int.ofNat_le

/-- A division of small words does not overflow. -/
theorem not_corner {n d : Nat} (hd : 0 < d) (hd' : d < 2147483648) :
    ¬ IntOp.SDivCorner (BitVec.ofNat 32 n) (BitVec.ofNat 32 d) := by
  have h0 : BitVec.ofNat 32 d ≠ 0#32 := fun h => by
    have := (small_inj hd' (by decide)).mp h; omega
  have h1 : BitVec.ofNat 32 d ≠ -1#32 := fun h => by
    have := congrArg BitVec.msb h
    rw [msb_small hd'] at this
    exact absurd this (by decide)
  unfold IntOp.SDivCorner
  rintro (h | ⟨-, h⟩)
  · exact h0 h
  · exact h1 h

/-- The quotient of small words. -/
theorem div_small {n d : Nat} (hn : n < 2147483648) (hd : 0 < d) (hd' : d < 2147483648) :
    IntOp.divsi .host (BitVec.ofNat 32 n) (BitVec.ofNat 32 d) = BitVec.ofNat 32 (n / d) := by
  unfold IntOp.divsi
  rw [if_neg (not_corner hd hd'), BitVec.sdiv_eq, msb_small hn, msb_small hd']
  refine BitVec.eq_of_toNat_eq ?_
  show (BitVec.udiv _ _).toNat = _
  rw [BitVec.udiv_eq, BitVec.toNat_udiv, toNat_small hn, toNat_small hd',
    toNat_small (Nat.lt_of_le_of_lt (Nat.div_le_self n d) hn)]

/-- The remainder of small words. -/
theorem rem_small {n d : Nat} (hn : n < 2147483648) (hd : 0 < d) (hd' : d < 2147483648) :
    IntOp.remsi .host (BitVec.ofNat 32 n) (BitVec.ofNat 32 d) = BitVec.ofNat 32 (n % d) := by
  unfold IntOp.remsi
  rw [if_neg (not_corner hd hd'), BitVec.srem_eq, msb_small hn, msb_small hd']
  refine BitVec.eq_of_toNat_eq ?_
  show ((BitVec.ofNat 32 n) % (BitVec.ofNat 32 d)).toNat = _
  rw [BitVec.toNat_umod, toNat_small hn, toNat_small hd', toNat_small (Nat.lt_of_le_of_lt (Nat.mod_le n d) hn)]

/-- The sign of a small word. -/
theorem sgn_small {n : Nat} (hn : n < 2147483648) : sgnW (BitVec.ofNat 32 n) = if n = 0 then 0#32 else 1#32 := by
  unfold sgnW
  rw [msb_small hn]
  by_cases h : n = 0
  · subst h; rfl
  · exact (if_neg (fun e => h ((small_inj hn (by decide)).mp e))).trans (if_neg h).symm

/-- Division rounding down, of small words. -/
theorem divW_small {n d : Nat} (hn : n < 2147483648) (hd : 0 < d) (hd' : d < 2147483648) :
    divW (BitVec.ofNat 32 n) (BitVec.ofNat 32 d) = BitVec.ofNat 32 (n / d) := by
  unfold divW
  rw [div_small hn hd hd', rem_small hn hd hd', sgn_small hn, sgn_small hd', if_neg (Nat.pos_iff_ne_zero.mp hd)]
  have h : IntOp.andi (IntOp.cmpi .ne (if n = 0 then 0#32 else 1#32) 1#32) (IntOp.cmpi .ne (BitVec.ofNat 32 (n % d)) 0#32) = 0#1 := by
    by_cases h : n = 0
    · subst h; rw [Nat.zero_mod]; decide
    · rw [if_neg h]
      exact BitVec.zero_and
  rw [h]
  rfl

/-- The remainder with the divisor's sign, of small words. -/
theorem modW_small {n d : Nat} (hn : n < 2147483648) (hd : 0 < d) (hd' : d < 2147483648) :
    modW (BitVec.ofNat 32 n) (BitVec.ofNat 32 d) = BitVec.ofNat 32 (n % d) := by
  have hm : modulusW (BitVec.ofNat 32 d) = BitVec.ofNat 32 d := by
    unfold modulusW
    have h : IntOp.cmpi .eq (BitVec.ofNat 32 d) 0#32 = 0#1 := by
      unfold IntOp.cmpi
      show BitVec.ofBool (BitVec.ofNat 32 d == 0#32) = _
      rw [beq_eq_false_iff_ne.mpr (fun h => by have := (small_inj hd' (by decide)).mp h; omega)]; rfl
    rw [h]; rfl
  unfold modW
  rw [hm, rem_small hn hd hd', slt_small (b := 0) (Nat.lt_of_le_of_lt (Nat.mod_le n d) hn) (by decide), slt_small (b := 0) hd' (by decide),
    decide_eq_false (Nat.not_lt_zero _), decide_eq_false (Nat.not_lt_zero _)]
  have h : IntOp.andi (IntOp.cmpi .ne (BitVec.ofBool false) (BitVec.ofBool false)) (IntOp.cmpi .ne (BitVec.ofNat 32 (n % d)) 0#32) = 0#1 :=
    BitVec.zero_and
  rw [h]
  rfl

/-- The edge and the node of a contribution, as words. -/
theorem words {t : Nat} (h : t < 36480) :
    rowW (BitVec.ofNat 32 t) = BitVec.ofNat 32 (t / 2) ∧ colW (BitVec.ofNat 32 t) = BitVec.ofNat 32 (col t) := by
  have hr : rowW (BitVec.ofNat 32 t) = BitVec.ofNat 32 (t / 2) := divW_small (d := 2) (by omega) (by decide) (by decide)
  refine ⟨hr, ?_⟩
  unfold colW col
  rw [hr, divW_small (n := t / 2) (d := 95) (by omega) (by decide) (by decide), modW_small (n := t) (d := 2) (by omega) (by decide) (by decide),
    slt_small (a := t / 2) (b := 9120) (by omega) (by decide)]
  unfold IntOp.addi IntOp.subi IntOp.muli
  by_cases hc : t < 18240
  · rw [if_pos hc, decide_eq_true (show t / 2 < 9120 by omega)]
    show BitVec.ofNat 32 (t / 2) + BitVec.ofNat 32 (t / 2 / 95) + BitVec.ofNat 32 (t % 2) = _
    rw [BitVec.ofNat_add, BitVec.ofNat_add]
  · rw [if_neg hc, decide_eq_false (show ¬ t / 2 < 9120 by omega)]
    show BitVec.ofNat 32 (t / 2) - BitVec.ofNat 32 9120 + BitVec.ofNat 32 96 * BitVec.ofNat 32 (t % 2) = _
    rw [BitVec.ofNat_add, BitVec.ofNat_mul, BitVec.ofNat_sub_ofNat_of_le _ _ (by decide) (by omega)]

/-- A node in range is taken as it is. -/
theorem take_words {n : Nat} (h : n < 9216) :
    wrapW (BitVec.ofNat 32 n) = BitVec.ofNat 32 n ∧ inW (BitVec.ofNat 32 n) = 1#1 := by
  constructor
  · unfold wrapW
    rw [slt_small (b := 0) (by omega) (by decide), decide_eq_false (Nat.not_lt_zero n)]
    rfl
  · unfold inW IntOp.cmpi
    show IntOp.andi (BitVec.ofBool ((BitVec.ofNat 32 0).sle (BitVec.ofNat 32 n))) (BitVec.ofBool ((BitVec.ofNat 32 n).sle (BitVec.ofNat 32 9215))) = _
    rw [sle_small (by decide) (by omega), sle_small (by omega) (by decide), decide_eq_true (Nat.zero_le n),
      decide_eq_true (show n ≤ 9215 by omega)]
    rfl

end Cert.ReferenceIdeal.RefVal

end
-- ==== Proof.Edge.lean ====
/- An edge's value: of each of its two ends, the sum over the input channels of the node's value times the weight; and the
   bias. -/
module

public import proofs.«01_k».proof.Proof.Words
public import Idealize.ShloMosaic.Lib.Pointwise

@[expose] public section

noncomputable section

namespace Cert.Edges

open Idealize.ShloMosaic Cert.ReferenceIdeal.RefVal

/-- An end of edge `k`, as a contribution. -/
abbrev endOf (k : Fin 18240) (e : Fin 2) : Fin 36480 := ⟨2 * k.val + e.val, by omega⟩

/-- One end's contribution to an edge: the sum over the input channels of the node's value times the weight. -/
def endSum (x0 : (⟨4, ![8, 32, 96, 96]⟩ : Shape).Idx → EReal) (x1 : (⟨3, ![32, 32, 36480]⟩ : Shape).Idx → EReal) (b : Fin 8)
    (o : Fin 32) (k : Fin 18240) (e : Fin 2) : EReal :=
  ∑ ic : Fin 32, x0 (ix4 b ic ⟨col (endOf k e).val / 96, by have := col_lt (endOf k e).isLt; omega⟩
    ⟨col (endOf k e).val % 96, by omega⟩) * x1 (ix3 o ic (endOf k e))

/-- The value of edge `k`, of batch `b` and output channel `o`. -/
def edge (x0 : (⟨4, ![8, 32, 96, 96]⟩ : Shape).Idx → EReal) (x1 : (⟨3, ![32, 32, 36480]⟩ : Shape).Idx → EReal)
    (x2 : (⟨1, ![32]⟩ : Shape).Idx → EReal) (b : Fin 8) (o : Fin 32) (k : Fin 18240) : EReal :=
  endSum x0 x1 b o k 0 + endSum x0 x1 b o k 1 + x2 (ix1 o)

end Cert.Edges

end

end
-- ==== Proof.RefVal.lean ====
/- The reference's result at an index: of each edge, the contributions of its two endpoints, and the bias. -/
module

public import proofs.«01_k».proof.Proof.Gen.ReferenceIdeal
public import proofs.«01_k».proof.Proof.Edge
public import proofs.«01_k».proof.Proof.Gen.ReferenceIdeal.Run
public import proofs.«01_k».proof.Proof.Gen.ReferenceIdeal.Read
public import Idealize.ShloMosaic.Lib.Pipeline.Value
public import Idealize.ShloMosaic.Lib.ValueIdx
public import Idealize.ShloMosaic.Lib.Routing.OpsPair
public import Idealize.ShloMosaic.Lib.Pointwise
public import Idealize.ShloMosaic.PureOps.Ideal.Laws

@[expose] public section

set_option maxRecDepth 16384

noncomputable section

namespace Cert.ReferenceIdeal.RefVal

open Cert.ReferenceIdeal Cert.ReferenceIdeal.Gen Cert.ReferenceIdeal.Read
open Cert.Edges
open Idealize.ShloMosaic Idealize.ShloMosaic.TcCoe Idealize.SL.Sem
open Idealize.ShloMosaic.ValueIdx hiding ix1 ix2 ix3 ix4

variable {F : FTy → Type} [FloatOps F]

/-! ## The index arrays -/

/-- The row words, the end words, the row words over 95, and the column words, as functions of the position. -/
theorem rows_word (i : S36480.Idx) : val_main_v1 (F := F) i = rowW (BitVec.ofNat 32 (i 0).val) := rfl
theorem ends_word (i : S36480.Idx) : val_main_v2 (F := F) i = modW (BitVec.ofNat 32 (i 0).val) 2#32 := rfl
theorem over_word (i : S36480.Idx) : val_main_v5 (F := F) i = divW (rowW (BitVec.ofNat 32 (i 0).val)) 95#32 := rfl
theorem cols_word (i : S36480.Idx) : val_main_v13 (F := F) i = colW (BitVec.ofNat 32 (i 0).val) := rfl

/-- A row word is half the position, -/
theorem rows_apply (i : S36480.Idx) : val_main_v1 (F := F) i = BitVec.ofNat 32 ((i 0).val / 2) :=
  (rows_word i).trans (words (i 0).isLt).1
/-- and a column word the number of the node. -/
theorem cols_apply (i : S36480.Idx) : val_main_v13 (F := F) i = BitVec.ofNat 32 (col (i 0).val) :=
  (cols_word i).trans (words (i 0).isLt).2

/-- The start index of a contribution's gather. -/
theorem starts_apply (i : S36480x1.Idx) : val_main_call4_v5 (F := F) i = BitVec.ofNat 32 (col (i 0).val) := by
  rw [val_main_call4_v5_apply]
  show wrapW (val_main_v13 (F := F) (idx_main_call4_v5 i)) = _
  rw [cols_apply]
  exact (take_words (col_lt (i 0).isLt)).1

/-- Every column lies in the range of the nodes. -/
theorem inRange_apply (i : S36480x1.Idx) : val_main_call4_v11 (F := F) i = 1#1 := by
  show inW (val_main_call4_v5 (F := F) i) = _
  rw [starts_apply]
  exact (take_words (col_lt (i 0).isLt)).2

/-- A conjunction of ones is one. -/
theorem foldl_one {ι : Type} (f : ι → BitVec 1) (hf : ∀ x, f x = 1#1) (l : List ι) :
    l.foldl (fun r x => IntOp.andi r (f x)) 1#1 = 1#1 := by
  induction l with
  | nil => rfl
  | cons x l ih => rw [List.foldl_cons, hf x]; exact ih

/-- Every contribution's node is in range. -/
theorem mask_apply (i : S36480.Idx) : val_main_call4_v12 (F := F) i = 1#1 :=
  foldl_one (fun n => val_main_call4_v11 (F := F) (S36480x1.rowMajor.symm n)) (fun _ => inRange_apply _) _

/-! ## The gather -/

/-- The gather's dimension numbers. -/
abbrev gd : GatherDims S8x32x9216 S36480x1 S8x32x36480 := gather_S8x32x9216_S36480x1_S8x32x36480_01_2_n_n_2_1_8321

/-- The gather of the nodes at a contribution. -/
theorem gather_apply {α : Type} (x : S8x32x9216.Idx → α) (idx : IVec S36480x1 32) (b : Fin 8) (ic : Fin 32) (t : Fin 36480)
    (n : Fin 9216) (hn : idx (ix2 t 0) = BitVec.ofNat 32 n.val) :
    Host.gather gd x idx (ix3 b ic t) = x (ix3 b ic n) := by
  unfold Host.gather
  congr 1
  funext a
  refine Fin.ext ?_
  show gd.start (ix3 b ic t) idx a + gd.batchCoord (ix3 b ic t) a + gd.offCoord (ix3 b ic t) a = _
  rw [GatherDims.batchCoord_eq_zero _ _ _ List.not_mem_nil, Nat.add_zero]
  have h0 : gd.start (ix3 b ic t) idx 0 + gd.offCoord (ix3 b ic t) 0 = b.val := by
    unfold GatherDims.start GatherDims.offCoord
    rw [dif_neg (by decide), dif_pos (by decide), Nat.zero_add]; rfl
  have h1 : gd.start (ix3 b ic t) idx 1 + gd.offCoord (ix3 b ic t) 1 = ic.val := by
    unfold GatherDims.start GatherDims.offCoord
    rw [dif_neg (by decide), dif_pos (by decide), Nat.zero_add]; rfl
  have h2 : gd.start (ix3 b ic t) idx 2 + gd.offCoord (ix3 b ic t) 2 = n.val := by
    have hs : gd.siIdx (ix3 b ic t) ⟨List.idxOf (2 : Fin 3) gd.startIndexMap,
        List.idxOf_lt_length_iff.2 (List.mem_singleton.mpr rfl)⟩ = ix2 t 0 := by
      funext c; refine Fin.ext ?_
      match c with
      | ⟨0, _⟩ => rfl
      | ⟨1, _⟩ => rfl
    rw [GatherDims.offCoord_eq_zero _ _ _ (by decide), Nat.add_zero]
    unfold GatherDims.start
    rw [dif_pos (show (2 : Fin 3) ∈ gd.startIndexMap from List.mem_singleton.mpr rfl)]
    refine (congrArg (fun q => min (idx q).toInt.toNat (S8x32x9216.size 2 - gd.sliceSizes 2)) hs).trans ?_
    have hl := n.isLt
    show min (idx (ix2 t 0)).toInt.toNat (9216 - 1) = n.val
    rw [hn, toInt_small (by omega), Int.toNat_natCast]
    omega
  match a with
  | ⟨0, _⟩ => exact h0
  | ⟨1, _⟩ => exact h1
  | ⟨2, _⟩ => exact h2

/-- The gathered value of a contribution is its node's value. -/
theorem gathered_apply (x0 : S8x32x96x96.Idx → F .f32) (b : Fin 8) (ic : Fin 32) (t : Fin 36480) :
    val_main_v15 (F := F) x0 (ix3 b ic t)
      = x0 (ix4 b ic ⟨col t.val / 96, by have := col_lt t.isLt; omega⟩ ⟨col t.val % 96, by omega⟩) := by
  rw [val_main_v15_apply, val_main_call4_v14_apply, mask_apply, select_one]
  have hc := col_lt t.isLt
  refine (gather_apply (val_main_v14 (F := F) x0) (val_main_call4_v5 (F := F)) b ic t ⟨col t.val, hc⟩
    (starts_apply _)).trans ?_
  rw [val_main_v14_apply]
  congr 1
  have hb := b.isLt
  have hi := ic.isLt
  funext a; refine Fin.ext ?_
  match a with
  | ⟨0, _⟩ => show ((b.val * 32 + ic.val) * 9216 + col t.val) / 294912 = b.val; omega
  | ⟨1, _⟩ => show ((b.val * 32 + ic.val) * 9216 + col t.val) / 9216 % 32 = ic.val; omega
  | ⟨2, _⟩ => show ((b.val * 32 + ic.val) * 9216 + col t.val) / 96 % 96 = col t.val / 96; omega
  | ⟨3, _⟩ => show ((b.val * 32 + ic.val) * 9216 + col t.val) % 96 = col t.val % 96; omega

/-! ## The segment sum -/

/-- The scatter's dimension numbers. -/
abbrev sd : ScatterDims S18240x8x32 S36480x1 S36480x8x32 := scatter_S18240x8x32_S36480x1_S36480x8x32_12_0_0_1

/-- Where a contribution lands: at its edge, at its own batch and channel. -/
theorem lands (j : S36480x8x32.Idx) (k : Fin 18240) (b : Fin 8) (o : Fin 32) :
    sd.resultIdx? j (val_main_v18 (F := F)) = some (ix3 k b o)
      ↔ (j 0).val / 2 = k.val ∧ (j 1).val = b.val ∧ (j 2).val = o.val := by
  rw [Routing.resultIdx?_eq_some]
  have e0 : sd.start j (val_main_v18 (F := F)) 0 + (sd.window j 0 : Int) = (((j 0).val / 2 : Nat) : Int) := by
    have hs : sd.siIdx j ⟨List.idxOf (0 : Fin 3) sd.scatterDimsToOperandDims,
        List.idxOf_lt_length_iff.2 (List.mem_singleton.mpr rfl)⟩ = (ix2 (j 0) 0 : S36480x1.Idx) := by
      funext c; refine Fin.ext ?_
      match c with
      | ⟨0, _⟩ => rfl
      | ⟨1, _⟩ => rfl
    have hw : sd.window j 0 = 0 := by unfold ScatterDims.window; rw [dif_neg (by decide)]
    rw [hw]
    unfold ScatterDims.start
    rw [dif_pos (show (0 : Fin 3) ∈ sd.scatterDimsToOperandDims from List.mem_singleton.mpr rfl)]
    refine (congrArg (fun q => (val_main_v18 (F := F) q).toInt + ((0 : Nat) : Int)) hs).trans ?_
    have hj : (j 0).val < 36480 := (j 0).isLt
    show (val_main_v18 (F := F) (ix2 (j 0) 0)).toInt + ((0 : Nat) : Int) = _
    rw [val_main_v18_apply, rows_apply]
    show (BitVec.ofNat 32 ((j 0).val / 2)).toInt + ((0 : Nat) : Int) = _
    rw [toInt_small (by omega)]; simp
  have e1 : sd.start j (val_main_v18 (F := F)) 1 + (sd.window j 1 : Int) = ((j 1).val : Int) := by
    unfold ScatterDims.start ScatterDims.window
    rw [dif_neg (by decide), dif_pos (by decide), Int.zero_add]; rfl
  have e2 : sd.start j (val_main_v18 (F := F)) 2 + (sd.window j 2 : Int) = ((j 2).val : Int) := by
    unfold ScatterDims.start ScatterDims.window
    rw [dif_neg (by decide), dif_pos (by decide), Int.zero_add]; rfl
  constructor
  · intro h
    have h0 := h 0; have h1 := h 1; have h2 := h 2
    rw [e0] at h0; rw [e1] at h1; rw [e2] at h2
    exact ⟨Int.ofNat.inj h0, Int.ofNat.inj h1, Int.ofNat.inj h2⟩
  · rintro ⟨h0, h1, h2⟩ a
    match a with
    | ⟨0, _⟩ => exact e0.trans (congrArg Nat.cast h0)
    | ⟨1, _⟩ => exact e1.trans (congrArg Nat.cast h1)
    | ⟨2, _⟩ => exact e2.trans (congrArg Nat.cast h2)

/-- An edge's segment is the sum of its two contributions. -/
theorem segment_apply (x0 : S8x32x96x96.Idx → EReal) (x1 : S32x32x36480.Idx → EReal) (k : Fin 18240) (b : Fin 8) (o : Fin 32) :
    val_main_v19 (F := Ideal) x0 x1 (ix3 k b o)
      = val_main_v16 (F := Ideal) x0 x1 (ix3 (endOf k 0) b o) + val_main_v16 (F := Ideal) x0 x1 (ix3 (endOf k 1) b o) := by
  show Ideal.hostScatterAdd sd (val_main_v17 (F := Ideal)) (val_main_v18 (F := Ideal)) (val_main_v16 (F := Ideal) x0 x1) (ix3 k b o) = _
  unfold Ideal.hostScatterAdd
  have hz : val_main_v17 (F := Ideal) (ix3 k b o) = 0 := by
    rw [val_main_v17_apply]; exact Ideal.ofBits_zero_f32
  have hf : (Finset.univ.filter fun j => sd.resultIdx? j (val_main_v18 (F := Ideal)) = some (ix3 k b o))
      = {ix3 (endOf k 0) b o, ix3 (endOf k 1) b o} := by
    ext j
    rw [Finset.mem_filter, lands, Finset.mem_insert, Finset.mem_singleton]
    constructor
    · rintro ⟨-, h0, h1, h2⟩
      have hm : (j 0).val % 2 = 0 ∨ (j 0).val % 2 = 1 := by omega
      rcases hm with hm | hm
      · left
        funext a; refine Fin.ext ?_
        match a with
        | ⟨0, _⟩ => show (j 0).val = 2 * k.val + 0; omega
        | ⟨1, _⟩ => exact h1
        | ⟨2, _⟩ => exact h2
      · right
        funext a; refine Fin.ext ?_
        match a with
        | ⟨0, _⟩ => show (j 0).val = 2 * k.val + 1; omega
        | ⟨1, _⟩ => exact h1
        | ⟨2, _⟩ => exact h2
    · rintro (rfl | rfl)
      · exact ⟨Finset.mem_univ _, by show (2 * k.val + 0) / 2 = k.val; omega, rfl, rfl⟩
      · exact ⟨Finset.mem_univ _, by show (2 * k.val + 1) / 2 = k.val; omega, rfl, rfl⟩
  have hne : (ix3 (endOf k 0) b o : S36480x8x32.Idx) ≠ ix3 (endOf k 1) b o := fun e => by
    have := congrArg Fin.val (congrFun e 0)
    change 2 * k.val + 0 = 2 * k.val + 1 at this
    omega
  rw [hz, zero_add, hf, Finset.sum_pair hne]

/-! ## The result -/

/-- The reference's result: of each edge, its two ends' contributions and the bias. -/
theorem result_apply (x0 : S8x32x96x96.Idx → EReal) (x1 : S32x32x36480.Idx → EReal) (x2 : S32.Idx → EReal)
    (b : Fin 8) (o : Fin 32) (k : Fin 18240) :
    val_main_v23 (F := Ideal) x0 x1 x2 (ix3 b o k) = edge x0 x1 x2 b o k := by
  have hc : ∀ e : Fin 2, val_main_v16 (F := Ideal) x0 x1 (ix3 (endOf k e) b o) = endSum x0 x1 b o k e := fun e => by
    rw [val_main_v16_apply]
    refine Finset.sum_congr rfl fun ic _ => ?_
    have hl : lidx_main_v16 (ix3 (endOf k e) b o) ic = ix3 b ic (endOf k e) := by
      funext a; match a with | ⟨0, _⟩ => rfl | ⟨1, _⟩ => rfl | ⟨2, _⟩ => rfl
    have hr : ridx_main_v16 (ix3 (endOf k e) b o) ic = ix3 o ic (endOf k e) := by
      funext a; match a with | ⟨0, _⟩ => rfl | ⟨1, _⟩ => rfl | ⟨2, _⟩ => rfl
    rw [hl, hr, gathered_apply]
  have hi : idx_main_v20 (ix3 b o k) = ix3 k b o := by
    funext a; match a with | ⟨0, _⟩ => rfl | ⟨1, _⟩ => rfl | ⟨2, _⟩ => rfl
  have hx : idx_main_v21 (idx_main_v22 (ix3 b o k)) = ix1 o := by
    funext a; match a with | ⟨0, _⟩ => rfl
  rw [val_main_v23_apply, Ideal.addf_def, val_main_v20_apply, hi, segment_apply, hc, hc, val_main_v22_apply, val_main_v21_apply, hx]
  rfl

end Cert.ReferenceIdeal.RefVal

end

end
-- ==== Proof.Place.lean ====
/- Where the kernel puts the two ends of an edge: side by side. -/
module

public import Idealize.ShloMosaic.Lib.ValueIdx

@[expose] public section

namespace Cert.KernelIdeal.Val

/-- Where the interleaving puts entry `p`: the first ends at the even places, the second ends at the odd. -/
def place (p : Nat) : Nat := if p < 95 then 2 * p else 2 * (p - 95) + 1

end Cert.KernelIdeal.Val

end
-- ==== Proof.Block.lean ====
/- A block of the kernel's result at an index, on extended reals: the interleaving product picks an end's value, the
   accumulators are sums over the input channels, and the folding product adds an edge's two ends. -/
module

public import proofs.«01_k».proof.Proof.Rolled
public import proofs.«01_k».proof.Proof.Place
public import Idealize.ShloMosaic.Lib.Pipeline.Value
public import Idealize.ShloMosaic.Lib.ValueIdx
public import Idealize.ShloMosaic.Lib.ValueLayout
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.SL.Sem
open Idealize.ShloMosaic.ValueIdx hiding ix1 ix2 ix3 ix4
open Cert.Exec

variable [Facts]
open Facts Shapes1.Facts₀

/-! ## The three stages at an index -/

/-- The operand of the interleaving product: the first ends' values, then the second ends'. -/
def joined (u : BitVec 1) (a1 b1 a2 b2 : S1x32x8x95.Idx → EReal) (i : Fin 32) (r : Fin 8) (p : Fin 190) : EReal :=
  if h : p.val < 95 then Scalar.select u (a1 (ix4 0 i r ⟨p.val, h⟩)) (b1 (ix4 0 i r ⟨p.val, h⟩))
  else Scalar.select u (a2 (ix4 0 i r ⟨p.val - 95, by omega⟩)) (b2 (ix4 0 i r ⟨p.val - 95, by omega⟩))

/-- The first stage's product at an index. -/
theorem pairs_apply (u : BitVec 1) (a1 b1 a2 b2 : S1x32x8x95.Idx → EReal) (e : S190x190.Idx → EReal) (i : Fin 32) (r : Fin 8)
    (q : Fin 190) :
    pairs (F := Ideal) u a1 b1 a2 b2 e (ix4 0 i r q) = ∑ p : Fin 190, joined u a1 b1 a2 b2 i r p * e (ix2 p q) := by
  pointwise
  have hs : ∑ p : Fin 190, joined u a1 b1 a2 b2 i r p * e (ix2 p q)
      = ∑ x : Fin 95, joined u a1 b1 a2 b2 i r (Fin.castAdd 95 x) * e (ix2 (Fin.castAdd 95 x) q)
        + ∑ x : Fin 95, joined u a1 b1 a2 b2 i r (Fin.natAdd 95 x) * e (ix2 (Fin.natAdd 95 x) q) :=
    Fin.sum_univ_add (a := 95) (b := 95) fun p : Fin 190 => joined u a1 b1 a2 b2 i r p * e (ix2 p q)
  rw [hs]
  congr 1

/-- The third stage's product at an index. -/
theorem folded_apply (v : S1x32x8x190.Idx → EReal) (f : S190x95.Idx → EReal) (z : S32x1x1.Idx → EReal) (o : Fin 32) (r : Fin 8)
    (j : Fin 95) :
    folded (F := Ideal) v f z (ix4 0 o r j) = (∑ q : Fin 190, v (ix4 0 o r q) * f (ix2 q j)) + z (ix3 o 0 0) := by
  pointwise

/-- The bias column at an index. -/
theorem biasCol_apply (v : S1x32.Idx → EReal) (o : Fin 32) : biasCol (F := Ideal) v (ix3 o 0 0) = v (ix2 0 o) := by
  pointwise

/-- A step of the second stage at an index. -/
theorem mac_apply (x : S1x1x8x190.Idx → EReal) (w : S2x1x8x190.Idx → EReal) (a : S2x8x190.Idx → EReal) (h : Fin 2) (r : Fin 8)
    (q : Fin 190) :
    mac (F := Ideal) x w a (ix3 h r q) = a (ix3 h r q) + x (ix4 0 0 r q) * w (ix4 h 0 r q) := by
  pointwise

/-! ## The rectangles at an index -/

/-- A batch of the first operand, at its first 95 columns. -/
theorem subA_apply (x : S8x32x8x96.Idx → EReal) (b : Fin 8) (i : Fin 32) (r : Fin 8) (j : Fin 95) :
    sub (rA b) x (ix4 0 i r j) = x (ix4 b i r ⟨j.val, by omega⟩) := congrArg x (by idx_ext)
/-- A batch of the first operand, at its last 95 columns. -/
theorem subA'_apply (x : S8x32x8x96.Idx → EReal) (b : Fin 8) (i : Fin 32) (r : Fin 8) (j : Fin 95) :
    sub (rA' b) x (ix4 0 i r j) = x (ix4 b i r ⟨j.val + 1, by omega⟩) := congrArg x (by
  funext a; apply Fin.ext; rw [Rect.emb_apply]
  match a with
  | ⟨0, _⟩ => simp
  | ⟨1, _⟩ => simp
  | ⟨2, _⟩ => simp
  | ⟨3, _⟩ => show 1 + 1 * j.val = j.val + 1; omega)
/-- A batch of the second or third operand. -/
theorem subB_apply (x : S8x32x8x95.Idx → EReal) (b : Fin 8) (i : Fin 32) (r : Fin 8) (j : Fin 95) :
    sub (rB b) x (ix4 0 i r j) = x (ix4 b i r j) := congrArg x (by idx_ext)
/-- A batch of a scratch buffer. -/
theorem subX_apply (x : S8x32x8x190.Idx → EReal) (b : Fin 8) (i : Fin 32) (r : Fin 8) (q : Fin 190) :
    sub (rX b) x (ix4 0 i r q) = x (ix4 b i r q) := congrArg x (by idx_ext)
/-- An input channel of a batch of a scratch buffer. -/
theorem subR_apply (x : S8x32x8x190.Idx → EReal) (b : Fin 8) (c : Fin 32) (r : Fin 8) (q : Fin 190) :
    sub (rR b c) x (ix4 0 0 r q) = x (ix4 b c r q) := congrArg x (by idx_ext)
/-- Two output channels of the weights, at one input channel. -/
theorem subW_apply (x : S32x32x8x190.Idx → EReal) (o : Fin 16) (c : Fin 32) (h : Fin 2) (r : Fin 8) (q : Fin 190) :
    sub (rW o c) x (ix4 h 0 r q) = x (ix4 ⟨2 * o.val + h.val, by omega⟩ c r q) := congrArg x (by
  funext a; apply Fin.ext; rw [Rect.emb_apply]
  match a with
  | ⟨0, _⟩ => show 2 * o.val + 1 * h.val = 2 * o.val + h.val; omega
  | ⟨1, _⟩ => simp
  | ⟨2, _⟩ => simp
  | ⟨3, _⟩ => simp)
/-- The bias whole. -/
theorem subBias_apply (x : S1x32.Idx → EReal) (o : Fin 32) : sub rBias x (ix2 0 o) = x (ix2 0 o) := congrArg x (by idx_ext)
/-- The interleaving operand whole. -/
theorem subE_apply (x : S190x190.Idx → EReal) (p q : Fin 190) : sub rE x (ix2 p q) = x (ix2 p q) := congrArg x (by idx_ext)
/-- The folding operand whole. -/
theorem subF_apply (x : S190x95.Idx → EReal) (q : Fin 190) (j : Fin 95) : sub rF x (ix2 q j) = x (ix2 q j) :=
  congrArg x (by idx_ext)

/-! ## The second stage -/

/-- A loop of additions is the sum of what it adds. -/
theorem upto_sum {ι : Type} {n : Nat} (g : Fin n → (ι → EReal) → ι → EReal) (t : Fin n → EReal) (x : ι) (z : ι → EReal)
    (hg : ∀ k a, g k a x = a x + t k) (hz : z x = 0) (k : Nat) (hk : k ≤ n) :
    upto g z k hk x = ∑ j : Fin k, t (j.castLE hk) := by
  induction k with
  | zero => rw [Fin.sum_univ_zero]; exact hz
  | succ k ih =>
    rw [Fin.sum_univ_castSucc]
    refine (hg ⟨k, hk⟩ (upto g z k (Nat.le_of_succ_le hk))).trans ?_
    exact congrArg (· + t ⟨k, hk⟩) (ih (Nat.le_of_succ_le hk))

/-- An accumulator is the sum over the input channels of the end's value times the weight. -/
theorem accV_apply (X : S8x32x8x190.Idx → EReal) (w : S32x32x8x190.Idx → EReal) (o : Fin 16) (b : Fin 8) (h : Fin 2) (r : Fin 8)
    (q : Fin 190) :
    accV (F := Ideal) X w o b (ix3 h r q)
      = ∑ c : Fin 32, X (ix4 b c r q) * w (ix4 ⟨2 * o.val + h.val, by omega⟩ c r q) := by
  unfold accV
  refine (upto_sum _ (fun c : Fin 32 => X (ix4 b c r q) * w (ix4 ⟨2 * o.val + h.val, by omega⟩ c r q)) (ix3 h r q) _
    (fun c a => ?_) Ideal.ofBits_zero_f32 32 (Nat.le_refl 32)).trans rfl
  refine (mac_apply _ _ _ h r q).trans ?_
  rw [subR_apply, subW_apply]

/-- The accumulator: the sum over all input channels. -/
theorem ACC_apply (X : S8x32x8x190.Idx → EReal) (w : S32x32x8x190.Idx → EReal) (b : Fin 8) (o : Fin 32) (r : Fin 8) (q : Fin 190) :
    ACC (F := Ideal) X w (ix4 b o r q) = ∑ c : Fin 32, X (ix4 b c r q) * w (ix4 o c r q) := by
  unfold ACC
  refine (shapeCast_abc_1abc_apply _ _ _ _ _ _).trans ((accV_apply X w _ b _ r q).trans ?_)
  refine Finset.sum_congr rfl fun c _ => ?_
  have e : (⟨2 * (o.val / 2) + o.val % 2, by omega⟩ : Fin 32) = o := Fin.ext (Nat.div_add_mod _ 2)
  exact congrArg (fun o' : Fin 32 => X (ix4 b c r q) * w (ix4 o' c r q)) e

/-! ## The constant operands -/

/-- The interleaving matrix. -/
def IsPlace (x : S190x190.Idx → EReal) : Prop := ∀ p q : Fin 190, x (ix2 p q) = if place p.val = q.val then 1 else 0
/-- The folding matrix. -/
def IsFold (x : S190x95.Idx → EReal) : Prop := ∀ (q : Fin 190) (j : Fin 95), x (ix2 q j) = if q.val / 2 = j.val then 1 else 0

/-- The value of an end of an edge in a block. -/
def node (u : BitVec 1) (x1 : S8x32x8x96.Idx → EReal) (x2 x3 : S8x32x8x95.Idx → EReal) (b : Fin 8) (c : Fin 32) (r : Fin 8)
    (j : Fin 95) (e : Fin 2) : EReal :=
  Scalar.select u (x1 (ix4 b c r ⟨j.val + e.val, by omega⟩)) (if e = 0 then x2 (ix4 b c r j) else x3 (ix4 b c r j))

/-- The place of an end of an edge. -/
abbrev at2 (j : Fin 95) (e : Fin 2) : Fin 190 := ⟨2 * j.val + e.val, by omega⟩

/-- The interleaved nodes: at place `2 j + e` end `e` of edge `j`. -/
theorem X2_apply (u : BitVec 1) (x1 : S8x32x8x96.Idx → EReal) (x2 x3 : S8x32x8x95.Idx → EReal) (x6 : S190x190.Idx → EReal)
    (h6 : IsPlace x6) (b : Fin 8) (c : Fin 32) (r : Fin 8) (j : Fin 95) (e : Fin 2) :
    X2 (F := Ideal) u x1 x2 x3 x6 (ix4 b c r (at2 j e)) = node u x1 x2 x3 b c r j e := by
  unfold X2
  refine (pairs_apply u (sub (rA b) x1) (sub (rB b) x2) (sub (rA' b) x1) (sub (rB b) x3) (sub rE x6) c r (at2 j e)).trans ?_
  have hp : ∀ p : Fin 190, place p.val = (at2 j e).val ↔ p = ⟨j.val + 95 * e.val, by omega⟩ := fun p => by
    rw [Fin.ext_iff]; unfold place
    show (if p.val < 95 then _ else _) = 2 * j.val + e.val ↔ p.val = j.val + 95 * e.val
    have := e.isLt
    split <;> omega
  rw [Finset.sum_eq_single (⟨j.val + 95 * e.val, by omega⟩ : Fin 190)
    (fun p _ hne => by rw [subE_apply, h6, if_neg (fun h => hne ((hp p).mp h)), mul_zero])
    (fun h => absurd (Finset.mem_univ _) h)]
  rw [subE_apply, h6, if_pos ((hp _).mpr rfl), mul_one]
  unfold joined node
  match e with
  | ⟨0, _⟩ =>
    rw [dif_pos (show j.val + 95 * 0 < 95 by omega), subA_apply, subB_apply]
    rfl
  | ⟨1, _⟩ =>
    rw [dif_neg (show ¬ j.val + 95 * 1 < 95 by omega), subA'_apply, subB_apply]
    have hj : (⟨j.val + 95 * 1 - 95, by omega⟩ : Fin 95) = j := Fin.ext (by show j.val + 95 * 1 - 95 = j.val; omega)
    exact congrArg (fun j' : Fin 95 => Scalar.select u (x1 (ix4 b c r ⟨j'.val + 1, by omega⟩)) (x3 (ix4 b c r j'))) hj

/-- The folded accumulator: of each edge the two places' sum, and the bias. -/
theorem OUT_apply (Y : S8x32x8x190.Idx → EReal) (x5 : S1x32.Idx → EReal) (x7 : S190x95.Idx → EReal) (h7 : IsFold x7)
    (b : Fin 8) (o : Fin 32) (r : Fin 8) (j : Fin 95) :
    OUT (F := Ideal) Y x5 x7 (ix4 b o r j)
      = Y (ix4 b o r (at2 j 0)) + Y (ix4 b o r (at2 j 1)) + x5 (ix2 0 o) := by
  unfold OUT
  refine (folded_apply (sub (rX b) Y) (sub rF x7) (biasCol (F := Ideal) (sub rBias x5)) o r j).trans ?_
  rw [biasCol_apply, subBias_apply]
  congr 1
  have hne : at2 j 0 ≠ at2 j 1 := fun h => by
    have : 2 * j.val + 0 = 2 * j.val + 1 := congrArg Fin.val h
    omega
  rw [← Finset.sum_subset (Finset.subset_univ {at2 j 0, at2 j 1}) (fun q _ hq => by
    rw [subF_apply, h7, if_neg, mul_zero]
    intro h
    apply hq
    rw [Finset.mem_insert, Finset.mem_singleton, Fin.ext_iff, Fin.ext_iff]
    show q.val = 2 * j.val + 0 ∨ q.val = 2 * j.val + 1
    omega), Finset.sum_pair hne]
  rw [subF_apply, subF_apply, h7, h7, if_pos (show (at2 j 0).val / 2 = j.val from by show (2 * j.val + 0) / 2 = j.val; omega),
    if_pos (show (at2 j 1).val / 2 = j.val from by show (2 * j.val + 1) / 2 = j.val; omega), mul_one, mul_one, subX_apply, subX_apply]

/-- An end's contribution to an edge of a block. -/
def blockEnd (u : BitVec 1) (x1 : S8x32x8x96.Idx → EReal) (x2 x3 : S8x32x8x95.Idx → EReal) (x4 : S32x32x8x190.Idx → EReal)
    (b : Fin 8) (o : Fin 32) (r : Fin 8) (j : Fin 95) (e : Fin 2) : EReal :=
  ∑ c : Fin 32, node u x1 x2 x3 b c r j e * x4 (ix4 o c r (at2 j e))

/-- The block of the result at an index: the contributions of the edge's two ends, and the bias. -/
theorem bodyOut_apply (u : BitVec 1) (x1 : S8x32x8x96.Idx → EReal) (x2 x3 : S8x32x8x95.Idx → EReal) (x4 : S32x32x8x190.Idx → EReal)
    (x5 : S1x32.Idx → EReal) (x6 : S190x190.Idx → EReal) (x7 : S190x95.Idx → EReal) (h6 : IsPlace x6) (h7 : IsFold x7)
    (b : Fin 8) (o : Fin 32) (r : Fin 8) (j : Fin 95) :
    bodyOut (F := Ideal) u x1 x2 x3 x4 x5 x6 x7 (ix4 b o r j)
      = blockEnd u x1 x2 x3 x4 b o r j 0 + blockEnd u x1 x2 x3 x4 b o r j 1 + x5 (ix2 0 o) := by
  unfold bodyOut
  have he : ∀ e : Fin 2, ACC (F := Ideal) (X2 (F := Ideal) u x1 x2 x3 x6) x4 (ix4 b o r (at2 j e)) = blockEnd u x1 x2 x3 x4 b o r j e :=
    fun e => (ACC_apply _ _ b o r (at2 j e)).trans (Finset.sum_congr rfl fun c _ => by rw [X2_apply u x1 x2 x3 x6 h6])
  rw [OUT_apply _ _ _ h7, he, he]

end Cert.KernelIdeal.Val

end

end
-- ==== Proof.Interleaving.lean ====
/- The interleaving operand of the kernel, entry by entry: each row has a one at the place its end goes to. -/
module

public import proofs.«01_k».proof.KernelIdeal
public import proofs.«01_k».proof.Proof.Place

@[expose] public section

set_option maxRecDepth 16384

namespace Cert.KernelIdeal.Val

open Idealize.ShloMosaic

/-- Of 38 rows of the interleaving operand: an entry is one where the column is the row's place, and zero elsewhere. -/
def InterleavingRows (k : Fin 5) : Prop := ∀ (p : Fin 38) (q : Fin 190),
  lit0 ⟨190 * (38 * k.val + p.val) + q.val, by omega⟩ = if place (38 * k.val + p.val) = q.val then 0x3F800000#32 else 0#32

/-- The rows are checked in five parts, each by evaluation. -/
theorem interleavingRows0 : InterleavingRows 0 := by unfold InterleavingRows; decide +kernel
theorem interleavingRows1 : InterleavingRows 1 := by unfold InterleavingRows; decide +kernel
theorem interleavingRows2 : InterleavingRows 2 := by unfold InterleavingRows; decide +kernel
theorem interleavingRows3 : InterleavingRows 3 := by unfold InterleavingRows; decide +kernel
theorem interleavingRows4 : InterleavingRows 4 := by unfold InterleavingRows; decide +kernel

theorem interleavingRows : ∀ k, InterleavingRows k
  | 0 => interleavingRows0
  | 1 => interleavingRows1
  | 2 => interleavingRows2
  | 3 => interleavingRows3
  | 4 => interleavingRows4

/-- An entry of the interleaving operand. -/
theorem interleaving_entries (p q : Fin 190) :
    lit0 ⟨190 * p.val + q.val, by omega⟩ = if place p.val = q.val then 0x3F800000#32 else 0#32 := by
  have e : 38 * (p.val / 38) + p.val % 38 = p.val := Nat.div_add_mod p.val 38
  have h := interleavingRows ⟨p.val / 38, by omega⟩ ⟨p.val % 38, by omega⟩ q
  simpa only [e] using h

end Cert.KernelIdeal.Val

end
-- ==== Proof.Folding.lean ====
/- The folding operand of the kernel, entry by entry: each column has ones at the two places of its edge. -/
module

public import proofs.«01_k».proof.KernelIdeal

@[expose] public section

set_option maxRecDepth 16384

namespace Cert.KernelIdeal.Val

open Idealize.ShloMosaic

/-- Of 38 rows of the folding operand: an entry is one where the row is a place of the column's edge, and zero elsewhere. -/
def FoldingRows (k : Fin 5) : Prop := ∀ (p : Fin 38) (j : Fin 95),
  lit1 ⟨95 * (38 * k.val + p.val) + j.val, by omega⟩ = if (38 * k.val + p.val) / 2 = j.val then 0x3F800000#32 else 0#32

/-- The rows are checked in five parts, each by evaluation. -/
theorem foldingRows0 : FoldingRows 0 := by unfold FoldingRows; decide +kernel
theorem foldingRows1 : FoldingRows 1 := by unfold FoldingRows; decide +kernel
theorem foldingRows2 : FoldingRows 2 := by unfold FoldingRows; decide +kernel
theorem foldingRows3 : FoldingRows 3 := by unfold FoldingRows; decide +kernel
theorem foldingRows4 : FoldingRows 4 := by unfold FoldingRows; decide +kernel

theorem foldingRows : ∀ k, FoldingRows k
  | 0 => foldingRows0
  | 1 => foldingRows1
  | 2 => foldingRows2
  | 3 => foldingRows3
  | 4 => foldingRows4

/-- An entry of the folding operand. -/
theorem folding_entries (q : Fin 190) (j : Fin 95) :
    lit1 ⟨95 * q.val + j.val, by omega⟩ = if q.val / 2 = j.val then 0x3F800000#32 else 0#32 := by
  have e : 38 * (q.val / 38) + q.val % 38 = q.val := Nat.div_add_mod q.val 38
  have h := foldingRows ⟨q.val / 38, by omega⟩ ⟨q.val % 38, by omega⟩ j
  simpa only [e] using h

end Cert.KernelIdeal.Val

end
-- ==== Proof.Value.lean ====
/- The kernel's result array: each of its blocks holds the values of its edges, and the blocks cover it. -/
module

public import proofs.«01_k».proof.Proof.Frame
public import proofs.«01_k».proof.Proof.Block
public import proofs.«01_k».proof.Proof.Edge
public import proofs.«01_k».proof.Proof.Interleaving
public import proofs.«01_k».proof.Proof.Folding
public import Idealize.ShloMosaic.Lib.Pipeline.Value
public import Idealize.ShloMosaic.Lib.Claim

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal.Gen Cert.Exec Cert.Edges Cert.ReferenceIdeal.RefVal

variable (m : (ℓ : Loc nD τ sig) → Buf (Elt Ideal) ℓ) (ρ : Dev nD → PrngReg)

/-! ## The arguments -/

/-- The nodes' values, the weights and the bias of device `c`. -/
abbrev nodes (c : Dev nD) : S8x32x96x96.Idx → EReal := m ((c : Thread nD τ).loc main_arg0)
abbrev weights (c : Dev nD) : S32x32x36480.Idx → EReal := m ((c : Thread nD τ).loc main_arg1)
abbrev biases (c : Dev nD) : S32.Idx → EReal := m ((c : Thread nD τ).loc main_arg2)

/-! ## The arrays the region finds -/

/-- The nodes are found as launched. -/
theorem V_nodes (c : Dev nD) (i : S8x32x96x96.Idx) : V m c main_arg0 i = nodes m c i := congrFun (V_main_arg0 m c) i

/-- The first ends of the vertical edges, 95 to a row: the nodes in their order. -/
theorem V_first (c : Dev nD) (b : Fin 8) (i : Fin 32) (R : Fin 96) (j : Fin 95) :
    V m c main_v2 (ix4 b i R j)
      = nodes m c (ix4 b i ⟨(95 * R.val + j.val) / 96, by omega⟩ ⟨(95 * R.val + j.val) % 96, by omega⟩) := by
  show StableHlo.after (List.flatten [hostOps0]) _ _ _ = _
  simp only [hostOps0, List.flatten_cons, List.flatten_nil, List.append_nil]
  after_results
  show shapeCast S8x32x96x95 (extractStridedSlice S8x32x9120 ![0, 0, 0] (shapeCast S8x32x9216 (nodes m c)
    shapeCasts_S8x32x96x96_S8x32x9216) slices_S8x32x9216_S8x32x9120_0_0_0) shapeCasts_S8x32x9120_S8x32x96x95 (ix4 b i R j) = _
  rw [shapeCast_apply _ _ _ (ix3 b i ⟨95 * R.val + j.val, by omega⟩ : S8x32x9120.Idx) (by
      rw [Shape.rowMajor_val_three, Shape.rowMajor_val_four]
      show (b.val * 32 + i.val) * 9120 + (95 * R.val + j.val) = ((b.val * 32 + i.val) * 96 + R.val) * 95 + j.val
      omega),
    extractStridedSlice_apply _ _ _ _ (ix3 b i ⟨95 * R.val + j.val, by omega⟩ : S8x32x9216.Idx) (fun a => by
      match a with
      | ⟨0, _⟩ => show b.val = 0 + b.val; omega
      | ⟨1, _⟩ => show i.val = 0 + i.val; omega
      | ⟨2, _⟩ => show 95 * R.val + j.val = 0 + (95 * R.val + j.val); omega),
    shapeCast_apply _ _ _ (ix4 b i ⟨(95 * R.val + j.val) / 96, by omega⟩ ⟨(95 * R.val + j.val) % 96, by omega⟩ : S8x32x96x96.Idx) (by
      rw [Shape.rowMajor_val_three, Shape.rowMajor_val_four]
      show ((b.val * 32 + i.val) * 96 + (95 * R.val + j.val) / 96) * 96 + (95 * R.val + j.val) % 96
        = (b.val * 32 + i.val) * 9216 + (95 * R.val + j.val)
      omega)]

/-- The second ends, one row of nodes further. -/
theorem V_second (c : Dev nD) (b : Fin 8) (i : Fin 32) (R : Fin 96) (j : Fin 95) :
    V m c main_v4 (ix4 b i R j)
      = nodes m c (ix4 b i ⟨(95 * R.val + j.val + 96) / 96, by omega⟩ ⟨(95 * R.val + j.val + 96) % 96, by omega⟩) := by
  show StableHlo.after (List.flatten [hostOps0]) _ _ _ = _
  simp only [hostOps0, List.flatten_cons, List.flatten_nil, List.append_nil]
  after_results
  show shapeCast S8x32x96x95 (extractStridedSlice S8x32x9120 ![0, 0, 96] (shapeCast S8x32x9216 (nodes m c)
    shapeCasts_S8x32x96x96_S8x32x9216) slices_S8x32x9216_S8x32x9120_0_0_96) shapeCasts_S8x32x9120_S8x32x96x95 (ix4 b i R j) = _
  rw [shapeCast_apply _ _ _ (ix3 b i ⟨95 * R.val + j.val, by omega⟩ : S8x32x9120.Idx) (by
      rw [Shape.rowMajor_val_three, Shape.rowMajor_val_four]
      show (b.val * 32 + i.val) * 9120 + (95 * R.val + j.val) = ((b.val * 32 + i.val) * 96 + R.val) * 95 + j.val
      omega),
    extractStridedSlice_apply _ _ _ _ (ix3 b i ⟨95 * R.val + j.val + 96, by omega⟩ : S8x32x9216.Idx) (fun a => by
      match a with
      | ⟨0, _⟩ => show b.val = 0 + b.val; omega
      | ⟨1, _⟩ => show i.val = 0 + i.val; omega
      | ⟨2, _⟩ => show 95 * R.val + j.val + 96 = 96 + (95 * R.val + j.val); omega),
    shapeCast_apply _ _ _ (ix4 b i ⟨(95 * R.val + j.val + 96) / 96, by omega⟩ ⟨(95 * R.val + j.val + 96) % 96, by omega⟩ : S8x32x96x96.Idx) (by
      rw [Shape.rowMajor_val_three, Shape.rowMajor_val_four]
      show ((b.val * 32 + i.val) * 96 + (95 * R.val + j.val + 96) / 96) * 96 + (95 * R.val + j.val + 96) % 96
        = (b.val * 32 + i.val) * 9216 + (95 * R.val + j.val + 96)
      omega)]

/-- The weights, 190 to a row: the two ends of 95 edges. -/
theorem V_weights (c : Dev nD) (o i : Fin 32) (R : Fin 192) (q : Fin 190) :
    V m c main_v5 (ix4 o i R q) = weights m c (ix3 o i ⟨190 * R.val + q.val, by omega⟩) := by
  show StableHlo.after (List.flatten [hostOps0]) _ _ _ = _
  simp only [hostOps0, List.flatten_cons, List.flatten_nil, List.append_nil]
  after_results
  exact shapeCast_apply (weights m c) shapeCasts_S32x32x36480_S32x32x192x190 (ix4 o i R q : S32x32x192x190.Idx)
    (ix3 o i ⟨190 * R.val + q.val, by omega⟩ : S32x32x36480.Idx) (by
      rw [Shape.rowMajor_val_three, Shape.rowMajor_val_four]
      show (o.val * 32 + i.val) * 36480 + (190 * R.val + q.val) = ((o.val * 32 + i.val) * 192 + R.val) * 190 + q.val
      omega)

/-- The bias, as a row. -/
theorem V_biases (c : Dev nD) (o : Fin 32) : V m c main_v6 (ix2 0 o) = biases m c (ix1 o) := by
  show StableHlo.after (List.flatten [hostOps0]) _ _ _ = _
  simp only [hostOps0, List.flatten_cons, List.flatten_nil, List.append_nil]
  after_results
  exact shapeCast_apply (biases m c) shapeCasts_S32_S1x32 (ix2 0 o : S1x32.Idx) (ix1 o : S32.Idx) (by
      rw [Shape.rowMajor_val_one, Shape.rowMajor_val_two]
      show o.val = 0 * 32 + o.val
      omega)

/-- The interleaving operand. -/
theorem V_place (c : Dev nD) : IsPlace (V m c main_cst) := by
  intro p q
  show StableHlo.after (List.flatten [hostOps0]) _ _ _ = _
  simp only [hostOps0, List.flatten_cons, List.flatten_nil, List.append_nil]
  after_results
  have e : S190x190.rowMajor (ix2 p q) = ⟨190 * p.val + q.val, by show _ < 36100; omega⟩ := Fin.ext (by
    rw [Shape.rowMajor_val_two]
    show p.val * 190 + q.val = 190 * p.val + q.val
    omega)
  show FloatOps.ofBits (F := Ideal) FTy.f32 (lit0 (S190x190.rowMajor (ix2 p q))) = _
  rw [e, interleaving_entries p q]
  by_cases h : place p.val = q.val
  · rw [if_pos h, if_pos h]; exact Ideal.ofBits_one_f32
  · rw [if_neg h, if_neg h]; exact Ideal.ofBits_zero_f32

/-- The folding operand. -/
theorem V_fold (c : Dev nD) : IsFold (V m c main_cst_0) := by
  intro q j
  show StableHlo.after (List.flatten [hostOps0]) _ _ _ = _
  simp only [hostOps0, List.flatten_cons, List.flatten_nil, List.append_nil]
  after_results
  have e : S190x95.rowMajor (ix2 q j) = ⟨95 * q.val + j.val, by show _ < 18050; omega⟩ := Fin.ext (by
    rw [Shape.rowMajor_val_two]
    show q.val * 95 + j.val = 95 * q.val + j.val
    omega)
  show FloatOps.ofBits (F := Ideal) FTy.f32 (lit1 (S190x95.rowMajor (ix2 q j))) = _
  rw [e, folding_entries q j]
  by_cases h : q.val / 2 = j.val
  · rw [if_pos h, if_pos h]; exact Ideal.ofBits_one_f32
  · rw [if_neg h, if_neg h]; exact Ideal.ofBits_zero_f32

/-! ## The windows' blocks -/

/-- The grid has 24 points. -/
theorem N_24 : cfg0.N = 24 := N_0

/-- The points of the upper half take the horizontal edges. -/
theorem upper_eq : ∀ t : Fin cfg0.N, upper (grid0.coords t) = if t.val < 12 then 1#1 else 0#1 := by decide +kernel

/-- The first window moves down the rows of nodes in the upper half, and then stays. -/
theorem index0 : ∀ t : Fin cfg0.N, win0_0.index t 0 = 0 ∧ win0_0.index t 1 = 0 ∧ win0_0.index t 2 = min t.val 11 ∧ win0_0.index t 3 = 0 := by
  decide +kernel
/-- The second window stays, and moves down its rows in the lower half, -/
theorem index1 : ∀ t : Fin cfg0.N, win0_1.index t 0 = 0 ∧ win0_1.index t 1 = 0 ∧ win0_1.index t 2 = t.val - 12 ∧ win0_1.index t 3 = 0 := by
  decide +kernel
/-- and so does the third. -/
theorem index2 : ∀ t : Fin cfg0.N, win0_2.index t 0 = 0 ∧ win0_2.index t 1 = 0 ∧ win0_2.index t 2 = t.val - 12 ∧ win0_2.index t 3 = 0 := by
  decide +kernel
/-- The weights are taken eight rows at a point. -/
theorem index3 : ∀ t : Fin cfg0.N, win0_3.index t 0 = 0 ∧ win0_3.index t 1 = 0 ∧ win0_3.index t 2 = t.val ∧ win0_3.index t 3 = 0 := by
  decide +kernel
/-- The bias and the two operands of zeros and ones stay. -/
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
/-- The result is left eight rows at a point. -/
theorem index7 : ∀ t : Fin cfg0.N, win0_7.index t 0 = 0 ∧ win0_7.index t 1 = 0 ∧ win0_7.index t 2 = t.val ∧ win0_7.index t 3 = 0 := by
  decide +kernel

/-- Of the upper half, a block of the first window: eight rows of the nodes. -/
theorem block0 (c : Dev nD) (t : Fin cfg0.N) (ht : t.val < 12) (b : Fin 8) (i : Fin 32) (r : Fin 8) (j : Fin 96) :
    iblk m c 0 t (ix4 b i r j) = nodes m c (ix4 b i ⟨8 * t.val + r.val, by omega⟩ j) := by
  refine Eq.trans ?_ (V_nodes m c _)
  refine congrArg (V m c main_arg0) (?_ : (win0_0.rect t).emb (ix4 b i r j) = _)
  obtain ⟨h0, h1, h2, h3⟩ := index0 t
  funext a; refine Fin.ext ?_
  rw [Pipeline.Window.rect_emb_val win0_0 t _ a rfl]
  match a with
  | ⟨0, _⟩ => show win0_0.index t 0 * 8 + b.val = b.val; rw [h0]; omega
  | ⟨1, _⟩ => show win0_0.index t 1 * 32 + i.val = i.val; rw [h1]; omega
  | ⟨2, _⟩ => show win0_0.index t 2 * 8 + r.val = 8 * t.val + r.val; rw [h2]; omega
  | ⟨3, _⟩ => show win0_0.index t 3 * 96 + j.val = j.val; rw [h3]; omega

/-- Of the lower half, a block of the second window: eight rows of the vertical edges' first ends. -/
theorem block1 (c : Dev nD) (t : Fin cfg0.N) (ht : 12 ≤ t.val) (b : Fin 8) (i : Fin 32) (r : Fin 8) (j : Fin 95) :
    iblk m c 1 t (ix4 b i r j) = V m c main_v2 (ix4 b i ⟨8 * (t.val - 12) + r.val, by have := t.isLt; have := N_24; omega⟩ j) := by
  refine congrArg (V m c main_v2) (?_ : (win0_1.rect t).emb (ix4 b i r j) = _)
  obtain ⟨h0, h1, h2, h3⟩ := index1 t
  funext a; refine Fin.ext ?_
  rw [Pipeline.Window.rect_emb_val win0_1 t _ a rfl]
  match a with
  | ⟨0, _⟩ => show win0_1.index t 0 * 8 + b.val = b.val; rw [h0]; omega
  | ⟨1, _⟩ => show win0_1.index t 1 * 32 + i.val = i.val; rw [h1]; omega
  | ⟨2, _⟩ => show win0_1.index t 2 * 8 + r.val = 8 * (t.val - 12) + r.val; rw [h2]; omega
  | ⟨3, _⟩ => show win0_1.index t 3 * 95 + j.val = j.val; rw [h3]; omega

/-- A block of the third window: eight rows of their second ends. -/
theorem block2 (c : Dev nD) (t : Fin cfg0.N) (ht : 12 ≤ t.val) (b : Fin 8) (i : Fin 32) (r : Fin 8) (j : Fin 95) :
    iblk m c 2 t (ix4 b i r j) = V m c main_v4 (ix4 b i ⟨8 * (t.val - 12) + r.val, by have := t.isLt; have := N_24; omega⟩ j) := by
  refine congrArg (V m c main_v4) (?_ : (win0_2.rect t).emb (ix4 b i r j) = _)
  obtain ⟨h0, h1, h2, h3⟩ := index2 t
  funext a; refine Fin.ext ?_
  rw [Pipeline.Window.rect_emb_val win0_2 t _ a rfl]
  match a with
  | ⟨0, _⟩ => show win0_2.index t 0 * 8 + b.val = b.val; rw [h0]; omega
  | ⟨1, _⟩ => show win0_2.index t 1 * 32 + i.val = i.val; rw [h1]; omega
  | ⟨2, _⟩ => show win0_2.index t 2 * 8 + r.val = 8 * (t.val - 12) + r.val; rw [h2]; omega
  | ⟨3, _⟩ => show win0_2.index t 3 * 95 + j.val = j.val; rw [h3]; omega

/-- A block of the weights: eight rows of them, 190 to a row. -/
theorem block3 (c : Dev nD) (t : Fin cfg0.N) (o i : Fin 32) (r : Fin 8) (q : Fin 190) :
    iblk m c 3 t (ix4 o i r q)
      = weights m c (ix3 o i ⟨190 * (8 * t.val + r.val) + q.val, by have := t.isLt; have := N_24; omega⟩) := by
  refine Eq.trans ?_ (V_weights m c o i ⟨8 * t.val + r.val, by have := t.isLt; have := N_24; omega⟩ q)
  refine congrArg (V m c main_v5) (?_ : (win0_3.rect t).emb (ix4 o i r q) = _)
  obtain ⟨h0, h1, h2, h3⟩ := index3 t
  funext a; refine Fin.ext ?_
  rw [Pipeline.Window.rect_emb_val win0_3 t _ a rfl]
  match a with
  | ⟨0, _⟩ => show win0_3.index t 0 * 32 + o.val = o.val; rw [h0]; omega
  | ⟨1, _⟩ => show win0_3.index t 1 * 32 + i.val = i.val; rw [h1]; omega
  | ⟨2, _⟩ => show win0_3.index t 2 * 8 + r.val = 8 * t.val + r.val; rw [h2]; omega
  | ⟨3, _⟩ => show win0_3.index t 3 * 190 + q.val = q.val; rw [h3]; omega

/-- The bias is the fifth window's block at every point. -/
theorem block4 (c : Dev nD) (t : Fin cfg0.N) (o : Fin 32) : iblk m c 4 t (ix2 0 o) = biases m c (ix1 o) := by
  refine Eq.trans ?_ (V_biases m c o)
  refine congrArg (V m c main_v6) (?_ : (win0_4.rect t).emb (ix2 0 o) = _)
  obtain ⟨h0, h1⟩ := index4 t
  funext a; refine Fin.ext ?_
  rw [Pipeline.Window.rect_emb_val win0_4 t _ a rfl]
  match a with
  | ⟨0, _⟩ => show win0_4.index t 0 * 1 + 0 = 0; rw [h0]
  | ⟨1, _⟩ => show win0_4.index t 1 * 32 + o.val = o.val; rw [h1]; omega

/-- And so are the two operands of zeros and ones. -/
theorem block5 (c : Dev nD) (t : Fin cfg0.N) : IsPlace (iblk m c 5 t) := by
  intro p q
  refine Eq.trans ?_ (V_place m c p q)
  refine congrArg (V m c main_cst) (?_ : (win0_5.rect t).emb (ix2 p q) = _)
  obtain ⟨h0, h1⟩ := index5 t
  funext a; refine Fin.ext ?_
  rw [Pipeline.Window.rect_emb_val win0_5 t _ a rfl]
  match a with
  | ⟨0, _⟩ => show win0_5.index t 0 * 190 + p.val = p.val; rw [h0]; omega
  | ⟨1, _⟩ => show win0_5.index t 1 * 190 + q.val = q.val; rw [h1]; omega

/-- The folding operand likewise. -/
theorem block6 (c : Dev nD) (t : Fin cfg0.N) : IsFold (iblk m c 6 t) := by
  intro q j
  refine Eq.trans ?_ (V_fold m c q j)
  refine congrArg (V m c main_cst_0) (?_ : (win0_6.rect t).emb (ix2 q j) = _)
  obtain ⟨h0, h1⟩ := index6 t
  funext a; refine Fin.ext ?_
  rw [Pipeline.Window.rect_emb_val win0_6 t _ a rfl]
  match a with
  | ⟨0, _⟩ => show win0_6.index t 0 * 190 + q.val = q.val; rw [h0]; omega
  | ⟨1, _⟩ => show win0_6.index t 1 * 95 + j.val = j.val; rw [h1]; omega

/-! ## A point's values -/

/-- The edge in row `r` and column `j` of point `t`'s block. -/
abbrev edgeAt (t : Fin cfg0.N) (r : Fin 8) (j : Fin 95) : Fin 18240 :=
  ⟨95 * (8 * t.val + r.val) + j.val, by have := t.isLt; have := N_24; omega⟩

/-- The node at an end of an edge of the block is the one the edge joins there. -/
theorem node_eq (c : Dev nD) (t : Fin cfg0.N) (b : Fin 8) (i : Fin 32) (r : Fin 8) (j : Fin 95) (e : Fin 2) :
    node (upper (grid0.coords t)) (iblk m c 0 t) (iblk m c 1 t) (iblk m c 2 t) b i r j e
      = nodes m c (ix4 b i ⟨col (endOf (edgeAt t r j) e).val / 96, by have := col_lt (endOf (edgeAt t r j) e).isLt; omega⟩
        ⟨col (endOf (edgeAt t r j) e).val % 96, by omega⟩) := by
  have ht := t.isLt
  have hN := N_24
  have he := e.isLt
  have hcol : col (endOf (edgeAt t r j) e).val
      = if t.val < 12 then 96 * (8 * t.val + r.val) + j.val + e.val
        else 95 * (8 * (t.val - 12) + r.val) + j.val + 96 * e.val := by
    show col (2 * (95 * (8 * t.val + r.val) + j.val) + e.val) = _
    unfold col
    split <;> split <;> omega
  unfold node
  rw [upper_eq]
  by_cases h : t.val < 12
  · rw [if_pos h] at hcol ⊢
    rw [ValueIdx.select_one, block0 m c t h]
    congr 2
    · exact Fin.ext (by show 8 * t.val + r.val = col (endOf (edgeAt t r j) e).val / 96; rw [hcol]; omega)
    · exact Fin.ext (by show j.val + e.val = col (endOf (edgeAt t r j) e).val % 96; rw [hcol]; omega)
  · rw [if_neg h] at hcol ⊢
    rw [ValueIdx.select_zero]
    obtain rfl | rfl : e = 0 ∨ e = 1 := by omega
    · rw [if_pos rfl, block1 m c t (by omega), V_first]
      congr 2
      · exact Fin.ext (by show (95 * (8 * (t.val - 12) + r.val) + j.val) / 96 = col _ / 96; rw [hcol]; rfl)
      · exact Fin.ext (by show (95 * (8 * (t.val - 12) + r.val) + j.val) % 96 = col _ % 96; rw [hcol]; rfl)
    · rw [if_neg (by decide), block2 m c t (by omega), V_second]
      congr 2
      · exact Fin.ext (by show (95 * (8 * (t.val - 12) + r.val) + j.val + 96) / 96 = col _ / 96; rw [hcol]; rfl)
      · exact Fin.ext (by show (95 * (8 * (t.val - 12) + r.val) + j.val + 96) % 96 = col _ % 96; rw [hcol]; rfl)

/-- An end's contribution to an edge of the block. -/
theorem blockEnd_eq (c : Dev nD) (t : Fin cfg0.N) (b : Fin 8) (o : Fin 32) (r : Fin 8) (j : Fin 95) (e : Fin 2) :
    blockEnd (upper (grid0.coords t)) (iblk m c 0 t) (iblk m c 1 t) (iblk m c 2 t) (iblk m c 3 t) b o r j e
      = endSum (nodes m c) (weights m c) b o (edgeAt t r j) e := by
  unfold blockEnd endSum
  refine Finset.sum_congr rfl fun i _ => ?_
  rw [node_eq, block3]
  congr 3
  exact Fin.ext (by
    show 190 * (8 * t.val + r.val) + (2 * j.val + e.val) = 2 * (95 * (8 * t.val + r.val) + j.val) + e.val
    omega)

/-- The block the body leaves at a point: the values of its edges. -/
theorem outsAt0_apply (c : Dev nD) (t : Fin cfg0.N) (b : Fin 8) (o : Fin 32) (r : Fin 8) (j : Fin 95) :
    outsAt0 m c t (ix4 b o r j) = edge (nodes m c) (weights m c) (biases m c) b o (edgeAt t r j) := by
  unfold outsAt0 edge
  rw [bodyOut_apply _ _ _ _ _ _ _ _ (block5 m c t) (block6 m c t), blockEnd_eq, blockEnd_eq, block4]

/-! ## The result's array -/

/-- The edge in row `R` and column `j` of the result's array. -/
abbrev edgeOf (R : Fin 192) (j : Fin 95) : Fin 18240 := ⟨95 * R.val + j.val, by omega⟩

/-- The values of all edges, 95 to a row. -/
def rowsOf (c : Dev nD) : S8x32x192x95.Idx → EReal := fun i =>
  edge (nodes m c) (weights m c) (biases m c) (i 0) (i 1) (edgeOf (i 2) (i 3))

/-- Where a block of the result lies in its array. -/
theorem emb7 (t : Fin cfg0.N) (b : Fin 8) (o : Fin 32) (r : Fin 8) (j : Fin 95) :
    (win0_7.rect t).emb (ix4 b o r j)
      = (ix4 b o ⟨8 * t.val + r.val, by have := t.isLt; have := N_24; omega⟩ j : S8x32x192x95.Idx) := by
  obtain ⟨h0, h1, h2, h3⟩ := index7 t
  funext a; refine Fin.ext ?_
  rw [Pipeline.Window.rect_emb_val win0_7 t _ a rfl]
  match a with
  | ⟨0, _⟩ => show win0_7.index t 0 * 8 + b.val = b.val; rw [h0]; omega
  | ⟨1, _⟩ => show win0_7.index t 1 * 32 + o.val = o.val; rw [h1]; omega
  | ⟨2, _⟩ => show win0_7.index t 2 * 8 + r.val = 8 * t.val + r.val; rw [h2]; omega
  | ⟨3, _⟩ => show win0_7.index t 3 * 95 + j.val = j.val; rw [h3]; omega

/-- What a point writes back is its block of the edges' values. -/
theorem flushed_eq (c : Dev nD) (t : Fin cfg0.N) :
    (dats m 0 c).flushed 7 t = (win0_7.blk t).view.read (Elt Ideal) (rowsOf m c) := by
  show (cfg0.win 7).cut (grid0.coords t) ((dats m 0 c).after 7 t) = _
  rw [after0_7]
  funext y
  refine Eq.trans (?_ : _ = outsAt0 m c t y) (Eq.trans ?_ (?_ : rowsOf m c ((win0_7.rect t).emb y) = _))
  · rfl
  · have hy : y = (ix4 (y 0) (y 1) (y 2) (y 3) : S8x32x8x95.Idx) := by
      funext a; match a with | ⟨0, _⟩ => rfl | ⟨1, _⟩ => rfl | ⟨2, _⟩ => rfl | ⟨3, _⟩ => rfl
    rw [hy]
    refine (outsAt0_apply m c t (y 0) (y 1) (y 2) (y 3)).trans ?_
    refine Eq.trans ?_ (congrArg (rowsOf m c) (emb7 t (y 0) (y 1) (y 2) (y 3))).symm
    rfl
  · rfl

/-- A point's block is eight rows of the array. -/
theorem mem_blk (t : Fin cfg0.N) (i : S8x32x192x95.Idx) :
    i ∈ ((cfg0.win 7).blk t).view.set ↔ 8 * t.val ≤ (i 2).val ∧ (i 2).val < 8 * t.val + 8 := by
  show i ∈ ((View.whole main_v7).slice (win0_7.rect t)).set ↔ _
  rw [View.set_slice_whole, Rect.mem_set_unit]
  obtain ⟨e0, e1, e2, e3⟩ := index7 t
  have h0 : (i 0).val < 8 := (i 0).isLt
  have h1 : (i 1).val < 32 := (i 1).isLt
  have h3 : (i 3).val < 95 := (i 3).isLt
  refine ⟨fun h => ?_, fun h a => ?_⟩
  · have h2 : win0_7.index t 2 * 8 ≤ (i 2).val ∧ (i 2).val < win0_7.index t 2 * 8 + 8 := h 2
    omega
  · match a with
    | ⟨0, _⟩ => show win0_7.index t 0 * 8 ≤ (i 0).val ∧ (i 0).val < win0_7.index t 0 * 8 + 8; omega
    | ⟨1, _⟩ => show win0_7.index t 1 * 32 ≤ (i 1).val ∧ (i 1).val < win0_7.index t 1 * 32 + 32; omega
    | ⟨2, _⟩ => show win0_7.index t 2 * 8 ≤ (i 2).val ∧ (i 2).val < win0_7.index t 2 * 8 + 8; omega
    | ⟨3, _⟩ => show win0_7.index t 3 * 95 ≤ (i 3).val ∧ (i 3).val < win0_7.index t 3 * 95 + 95; omega

/-- The blocks cover the array. -/
theorem cover (i : S8x32x192x95.Idx) : ∃ t : Fin cfg0.N, (cfg0.win 7).flush t = true ∧ i ∈ ((cfg0.win 7).blk t).view.set := by
  have h2 : (i 2).val < 192 := (i 2).isLt
  have hN := N_24
  refine ⟨⟨(i 2).val / 8, by omega⟩, flush0_7 _, (mem_blk _ i).mpr ?_⟩
  show 8 * ((i 2).val / 8) ≤ (i 2).val ∧ (i 2).val < 8 * ((i 2).val / 8) + 8
  omega

/-- So the array ends at the edges' values. -/
theorem final7 (c : Dev nD) : (dats m 0 c).arrAt 7 cfg0.N = rowsOf m c :=
  (dats m 0 c).arrAt_eq_of_cover 7 (rowsOf m c) (fun t _ => flushed_eq m c t) cover

/-! ## The result -/

/-- The values of all edges, in a row. -/
def edges (c : Dev nD) : S8x32x18240.Idx → EReal := fun i =>
  edge (nodes m c) (weights m c) (biases m c) (i 0) (i 1) (i 2)

/-- The kernel's last operation lays the rows in one. -/
theorem W_main_v8 (c : Dev nD) :
    Pipeline.afterTail₀ cfgs (dats m) 0 (V0 m) [hostOps1] c main_v8 = edges m c := by
  have h7 : Pipeline.withArrays (cfgs 0).spec c (V0 m c) (fun w => (dats m 0 c).arrAt w (cfgs 0).N) (Proc.devRef .tc main_v7)
      = rowsOf m c := (Pipeline.withArrays_arr (cfgs 0).spec (by decide) c (V0 m c) _ 7).trans (final7 m c)
  unfold Pipeline.afterTail₀
  simp only [hostOps1, List.flatten_cons, List.flatten_nil, List.append_nil]
  after_results
  rw [h7]
  funext i
  have hi : i = (ix3 (i 0) (i 1) (i 2) : S8x32x18240.Idx) := by
    funext a; match a with | ⟨0, _⟩ => rfl | ⟨1, _⟩ => rfl | ⟨2, _⟩ => rfl
  have h2 : (i 2).val < 18240 := (i 2).isLt
  rw [hi]
  refine (shapeCast_apply (rowsOf m c) shapeCasts_S8x32x192x95_S8x32x18240 (ix3 (i 0) (i 1) (i 2) : S8x32x18240.Idx)
    (ix4 (i 0) (i 1) ⟨(i 2).val / 95, by omega⟩ ⟨(i 2).val % 95, by omega⟩ : S8x32x192x95.Idx) (by
      rw [Shape.rowMajor_val_three, Shape.rowMajor_val_four]
      show (((i 0).val * 32 + (i 1).val) * 192 + (i 2).val / 95) * 95 + (i 2).val % 95
        = ((i 0).val * 32 + (i 1).val) * 18240 + (i 2).val
      omega)).trans ?_
  exact congrArg (edge (nodes m c) (weights m c) (biases m c) (i 0) (i 1)) (Fin.ext (Nat.div_add_mod (i 2).val 95))

/-- The run: the result holds every edge's value, and the arguments end as launched. -/
theorem run : θ_run defs (onTc (τ := τ) (main (F := Ideal))) ⟨m, fun _ => 0, ρ⟩ (fun r => ∀ c : Dev nD,
      r.2.mem ((c.tc : Thread nD τ).loc main_v8) = edges m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h.1 c).2 main_v8 (Pipeline.mem_restRefs_of main_v8 (by decide) (by decide))).trans (W_main_v8 m c), h.2 c⟩)
    (θ_run_and (run_main m ρ) (unchanged m ρ))

end Cert.KernelIdeal.Val

end

end
-- ==== Proof.lean ====
/- The assembly: every claim of the certificate, from the runs of the three programs. -/
module

public import proofs.«01_k».proof.Defs
public import proofs.«01_k».proof.Proof.Frame
public import proofs.«01_k».proof.Proof.FrameBits
public import proofs.«01_k».proof.Proof.RefVal
public import proofs.«01_k».proof.Proof.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The reference ends with its arguments unchanged; it has no semaphore, so every counter is zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments the kernel and the reference end at the same result: every edge's value. -/
theorem algebraic : Cert.algebraic_KernelIdeal_ReferenceIdeal := fun m ρ m' ρ' _ hagree =>
  ⟨fun c => Cert.KernelIdeal.Val.edges m c, Cert.KernelIdeal.Val.run m ρ,
    (θ_run Cert.ReferenceIdeal.defs _ _).mono (fun r h c => ⟨(h c).1.trans (by
        obtain ⟨h0, h1, h2⟩ := hagree c
        refine (Cert.ReferenceIdeal.Read.val_main_v23_eq m' c).trans ?_
        funext i
        have hi : i = ix3 (i 0) (i 1) (i 2) := by
          funext a; match a with | ⟨0, _⟩ => rfl | ⟨1, _⟩ => rfl | ⟨2, _⟩ => rfl
        rw [h0, h1, h2, hi]
        exact Cert.ReferenceIdeal.RefVal.result_apply _ _ _ (i 0) (i 1) (i 2)), (h c).2⟩)
      (Cert.ReferenceIdeal.Value.run (F := Ideal) m' ρ')⟩

/-- Every claim. -/
theorem claim : Cert.Claim :=
  ⟨Cert.Kernel.Gen.facts, Cert.KernelIdeal.Gen.facts, Cert.ReferenceIdeal.Gen.facts,
    fun m ρ _ => Cert.Kernel.Val.frame m ρ, fun m ρ _ => Cert.KernelIdeal.Val.frame m ρ, frame_reference, trivial,
    algebraic⟩

end Cert.Proof

end
